-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v428) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x1000 : Shape := ⟨2, ![16384, 1000]⟩
abbrev S16384 : Shape := ⟨1, ![16384]⟩
abbrev S8x2048x1 : Shape := ⟨3, ![8, 2048, 1]⟩
abbrev S1x1 : Shape := ⟨2, ![1, 1]⟩
abbrev S2048x1000 : Shape := ⟨2, ![2048, 1000]⟩
abbrev S1x2048x1 : Shape := ⟨3, ![1, 2048, 1]⟩
abbrev S3x16 : Shape := ⟨2, ![3, 16]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩
abbrev S8x1000 : Shape := ⟨2, ![8, 1000]⟩
abbrev S8 : Shape := ⟨1, ![8]⟩
abbrev S8x1 : Shape := ⟨2, ![8, 1]⟩
abbrev S1x8x1 : Shape := ⟨3, ![1, 8, 1]⟩
abbrev S1x8x1000 : Shape := ⟨3, ![1, 8, 1000]⟩
abbrev S1x8 : Shape := ⟨2, ![1, 8]⟩
abbrev S16 : Shape := ⟨1, ![16]⟩
abbrev S1x16 : Shape := ⟨2, ![1, 16]⟩
abbrev S1x15 : Shape := ⟨2, ![1, 15]⟩
abbrev S15 : Shape := ⟨1, ![15]⟩

abbrev nBuf : Space → Nat
  | .hbm => 4
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S8x2048x1, .i32⟩
  | .hbm, ⟨3, _⟩ => ⟨S1x1, .f32⟩
  | .local _ .vmem, ⟨0, _⟩ => ⟨S2048x1000, .f32⟩
  | .local _ .vmem, ⟨1, _⟩ => ⟨S2048x1000, .f32⟩
  | .local _ .vmem, ⟨2, _⟩ => ⟨S1x2048x1, .i32⟩
  | .local _ .vmem, ⟨3, _⟩ => ⟨S1x2048x1, .i32⟩
  | .local _ .vmem, ⟨4, _⟩ => ⟨S1x1, .f32⟩
  | .local _ .vmem, ⟨5, _⟩ => ⟨S3x16, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_mult1 (arg5 : BitVec 32) : BitVec 32 :=
  let c0_i32_11 : BitVec 32 := 0#32
  let v31 : BitVec 1 := Scalar.cmpi .sgt arg5 c0_i32_11
  let v32 : BitVec 32 := Scalar.extui v31
  let c0_i32_12 : BitVec 32 := 0#32
  let v33 : BitVec 1 := Scalar.cmpi .slt arg5 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi arg5 c8_i32
  let c0_i32_15 : BitVec 32 := 0#32
  let v43 : BitVec 1 := Scalar.cmpi .ne v42 c0_i32_15
  let v44 : BitVec 1 := Scalar.andi v41 v43
  let v30 : BitVec 32 := Scalar.divsi arg5 c8_i32
  let c1_i32 : BitVec 32 := 1#32
  let v45 : BitVec 32 := Scalar.subi v30 c1_i32
  let v46 : BitVec 32 := Scalar.select v44 v45 v30
  let c8_i32_16 : BitVec 32 := 8#32
  let v47 : BitVec 32 := Scalar.muli v46 c8_i32_16
  v47

def k0_off1 (arg5 : BitVec 32) : Fin 2 → Nat :=
  let c0_i32_11 : BitVec 32 := 0#32
  let v31 : BitVec 1 := Scalar.cmpi .sgt arg5 c0_i32_11
  let v32 : BitVec 32 := Scalar.extui v31
  let c0_i32_12 : BitVec 32 := 0#32
  let v33 : BitVec 1 := Scalar.cmpi .slt arg5 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi arg5 c8_i32
  let c0_i32_15 : BitVec 32 := 0#32
  let v43 : BitVec 1 := Scalar.cmpi .ne v42 c0_i32_15
  let v44 : BitVec 1 := Scalar.andi v41 v43
  let v30 : BitVec 32 := Scalar.divsi arg5 c8_i32
  let c1_i32 : BitVec 32 := 1#32
  let v45 : BitVec 32 := Scalar.subi v30 c1_i32
  let v46 : BitVec 32 := Scalar.select v44 v45 v30
  let c8_i32_16 : BitVec 32 := 8#32
  let v47 : BitVec 32 := Scalar.muli v46 c8_i32_16
  let v48 : BitVec 32 := v47
  let v49 : Index := Scalar.indexCast v48
  let c0_17 : Index := 0#32
  ![v49.toNat, 0]
def k0_off2 (arg5 : BitVec 32) : Fin 3 → Nat :=
  let c0_20 : Index := 0#32
  let c0_i32_11 : BitVec 32 := 0#32
  let v31 : BitVec 1 := Scalar.cmpi .sgt arg5 c0_i32_11
  let v32 : BitVec 32 := Scalar.extui v31
  let c0_i32_12 : BitVec 32 := 0#32
  let v33 : BitVec 1 := Scalar.cmpi .slt arg5 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi arg5 c8_i32
  let c0_i32_15 : BitVec 32 := 0#32
  let v43 : BitVec 1 := Scalar.cmpi .ne v42 c0_i32_15
  let v44 : BitVec 1 := Scalar.andi v41 v43
  let v30 : BitVec 32 := Scalar.divsi arg5 c8_i32
  let c1_i32 : BitVec 32 := 1#32
  let v45 : BitVec 32 := Scalar.subi v30 c1_i32
  let v46 : BitVec 32 := Scalar.select v44 v45 v30
  let c8_i32_16 : BitVec 32 := 8#32
  let v47 : BitVec 32 := Scalar.muli v46 c8_i32_16
  let v48 : BitVec 32 := v47
  let v60 : Index := Scalar.indexCast v48
  let c0_21 : Index := 0#32
  ![0, v60.toNat, 0]

def k0_chk1 (arg5 : BitVec 32) : Prop :=
  (8 ∣ (k0_mult1 arg5).toNat) ∧
  (∀ a, (k0_off1 arg5) a + S8x1000.size a ≤ S2048x1000.size a) ∧
  (∀ a, (k0_off2 arg5) a + S1x8x1.size a ≤ S1x2048x1.size a)
theorem k0_mult1_dvd : ∀ (arg5 : BitVec 32) (k0_hw1 : k0_chk1 arg5), 8 ∣ (k0_mult1 arg5).toNat := fun arg5 k0_hw1 => k0_hw1.1
theorem k0_off1_inb : ∀ (arg5 : BitVec 32) (k0_hw1 : k0_chk1 arg5), ∀ a, (k0_off1 arg5) a + S8x1000.size a ≤ S2048x1000.size a := fun arg5 k0_hw1 => k0_hw1.2.1
theorem k0_off2_inb : ∀ (arg5 : BitVec 32) (k0_hw1 : k0_chk1 arg5), ∀ a, (k0_off2 arg5) a + S1x8x1.size a ≤ S1x2048x1.size a := fun arg5 k0_hw1 => k0_hw1.2.2

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S16 : Shape := ⟨1, ![16]⟩
abbrev S_ : Shape := ⟨0, ![]⟩
abbrev S16384x1 : Shape := ⟨2, ![16384, 1]⟩
abbrev S16384000 : Shape := ⟨1, ![16384000]⟩
abbrev S1000 : Shape := ⟨1, ![1000]⟩
abbrev S1x1000 : Shape := ⟨2, ![1, 1000]⟩
abbrev S15 : Shape := ⟨1, ![15]⟩
abbrev S1 : Shape := ⟨1, ![1]⟩
abbrev S1x1 : Shape := ⟨2, ![1, 1]⟩

abbrev nBuf : Space → Nat
  | .hbm => 556
  | .vmem => 0
  | .smem => 0
  | _ => 0

abbrev hbmTy0_0 (i : Nat) : BufTy := match i % 128 with
  | 0 => ⟨S16384x1000, .f32⟩
  | 1 => ⟨S16384, .i32⟩
  | 2 => ⟨S16, .f32⟩
  | 3 => ⟨S_, .f32⟩
  | 4 => ⟨S16384, .f32⟩
  | 5 => ⟨S_, .f32⟩
  | 6 => ⟨S16384, .f32⟩
  | 7 => ⟨S16384, .f32⟩
  | 8 => ⟨S16384x1, .f32⟩
  | 9 => ⟨S16384x1000, .f32⟩
  | 10 => ⟨S16384x1000, .f32⟩
  | 11 => ⟨S16384x1000, .f32⟩
  | 12 => ⟨S_, .f32⟩
  | 13 => ⟨S16384, .f32⟩
  | 14 => ⟨S16384x1, .f32⟩
  | 15 => ⟨S16384x1000, .f32⟩
  | 16 => ⟨S16384x1000, .f32⟩
  | 17 => ⟨S16384000, .f32⟩
  | 18 => ⟨S1000, .i32⟩
  | 19 => ⟨S1x1000, .i32⟩
  | 20 => ⟨S16384x1, .i32⟩
  | 21 => ⟨S16384x1000, .i32⟩
  | 22 => ⟨S16384x1000, .i32⟩
  | 23 => ⟨S16384x1000, .i1⟩
  | 24 => ⟨S16384000, .i1⟩
  | 25 => ⟨S16384000, .f32⟩
  | 26 => ⟨S15, .f32⟩
  | 27 => ⟨S15, .f32⟩
  | 28 => ⟨S_, .f32⟩
  | 29 => ⟨S1, .f32⟩
  | 30 => ⟨S1, .f32⟩
  | 31 => ⟨S_, .f32⟩
  | 32 => ⟨S1, .f32⟩
  | 33 => ⟨S_, .f32⟩
  | 34 => ⟨S16384000, .f32⟩
  | 35 => ⟨S16384000, .i1⟩
  | 36 => ⟨S16384000, .f32⟩
  | 37 => ⟨S16384000, .i1⟩
  | 38 => ⟨S16384000, .i1⟩
  | 39 => ⟨S16384000, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S16384000, .f32⟩
  | 49 => ⟨S_, .f32⟩
  | 50 => ⟨S_, .f32⟩
  | 51 => ⟨S_, .f32⟩
  | 52 => ⟨S16384000, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .i1⟩
  | 61 => ⟨S_, .f32⟩
  | 62 => ⟨S_, .f32⟩
  | 63 => ⟨S1, .f32⟩
  | 64 => ⟨S1, .f32⟩
  | 65 => ⟨S1, .f32⟩
  | 66 => ⟨S_, .f32⟩
  | 67 => ⟨S1, .f32⟩
  | 68 => ⟨S_, .f32⟩
  | 69 => ⟨S16384000, .f32⟩
  | 70 => ⟨S16384000, .i1⟩
  | 71 => ⟨S16384000, .f32⟩
  | 72 => ⟨S16384000, .i1⟩
  | 73 => ⟨S16384000, .i1⟩
  | 74 => ⟨S16384000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16384000, .f32⟩
  | 84 => ⟨S_, .f32⟩
  | 85 => ⟨S_, .f32⟩
  | 86 => ⟨S_, .f32⟩
  | 87 => ⟨S16384000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S1, .f32⟩
  | 99 => ⟨S1, .f32⟩
  | 100 => ⟨S1, .f32⟩
  | 101 => ⟨S_, .f32⟩
  | 102 => ⟨S1, .f32⟩
  | 103 => ⟨S_, .f32⟩
  | 104 => ⟨S16384000, .f32⟩
  | 105 => ⟨S16384000, .i1⟩
  | 106 => ⟨S16384000, .f32⟩
  | 107 => ⟨S16384000, .i1⟩
  | 108 => ⟨S16384000, .i1⟩
  | 109 => ⟨S16384000, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S16384000, .f32⟩
  | 119 => ⟨S_, .f32⟩
  | 120 => ⟨S_, .f32⟩
  | 121 => ⟨S_, .f32⟩
  | 122 => ⟨S16384000, .f32⟩
  | 123 => ⟨S_, .f32⟩
  | 124 => ⟨S_, .f32⟩
  | 125 => ⟨S_, .f32⟩
  | 126 => ⟨S_, .f32⟩
  | 127 => ⟨S_, .f32⟩
  | _ => ⟨S16384x1000, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S1, .f32⟩
  | 6 => ⟨S1, .f32⟩
  | 7 => ⟨S1, .f32⟩
  | 8 => ⟨S_, .f32⟩
  | 9 => ⟨S1, .f32⟩
  | 10 => ⟨S_, .f32⟩
  | 11 => ⟨S16384000, .f32⟩
  | 12 => ⟨S16384000, .i1⟩
  | 13 => ⟨S16384000, .f32⟩
  | 14 => ⟨S16384000, .i1⟩
  | 15 => ⟨S16384000, .i1⟩
  | 16 => ⟨S16384000, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16384000, .f32⟩
  | 26 => ⟨S_, .f32⟩
  | 27 => ⟨S_, .f32⟩
  | 28 => ⟨S_, .f32⟩
  | 29 => ⟨S16384000, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S1, .f32⟩
  | 41 => ⟨S1, .f32⟩
  | 42 => ⟨S1, .f32⟩
  | 43 => ⟨S_, .f32⟩
  | 44 => ⟨S1, .f32⟩
  | 45 => ⟨S_, .f32⟩
  | 46 => ⟨S16384000, .f32⟩
  | 47 => ⟨S16384000, .i1⟩
  | 48 => ⟨S16384000, .f32⟩
  | 49 => ⟨S16384000, .i1⟩
  | 50 => ⟨S16384000, .i1⟩
  | 51 => ⟨S16384000, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S16384000, .f32⟩
  | 61 => ⟨S_, .f32⟩
  | 62 => ⟨S_, .f32⟩
  | 63 => ⟨S_, .f32⟩
  | 64 => ⟨S16384000, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i1⟩
  | 73 => ⟨S_, .f32⟩
  | 74 => ⟨S_, .f32⟩
  | 75 => ⟨S1, .f32⟩
  | 76 => ⟨S1, .f32⟩
  | 77 => ⟨S1, .f32⟩
  | 78 => ⟨S_, .f32⟩
  | 79 => ⟨S1, .f32⟩
  | 80 => ⟨S_, .f32⟩
  | 81 => ⟨S16384000, .f32⟩
  | 82 => ⟨S16384000, .i1⟩
  | 83 => ⟨S16384000, .f32⟩
  | 84 => ⟨S16384000, .i1⟩
  | 85 => ⟨S16384000, .i1⟩
  | 86 => ⟨S16384000, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S16384000, .f32⟩
  | 96 => ⟨S_, .f32⟩
  | 97 => ⟨S_, .f32⟩
  | 98 => ⟨S_, .f32⟩
  | 99 => ⟨S16384000, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .i1⟩
  | 108 => ⟨S_, .f32⟩
  | 109 => ⟨S_, .f32⟩
  | 110 => ⟨S1, .f32⟩
  | 111 => ⟨S1, .f32⟩
  | 112 => ⟨S1, .f32⟩
  | 113 => ⟨S_, .f32⟩
  | 114 => ⟨S1, .f32⟩
  | 115 => ⟨S_, .f32⟩
  | 116 => ⟨S16384000, .f32⟩
  | 117 => ⟨S16384000, .i1⟩
  | 118 => ⟨S16384000, .f32⟩
  | 119 => ⟨S16384000, .i1⟩
  | 120 => ⟨S16384000, .i1⟩
  | 121 => ⟨S16384000, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x1000, .f32⟩

abbrev hbmTy0_2 (i : Nat) : BufTy := match i % 128 with
  | 0 => ⟨S_, .f32⟩
  | 1 => ⟨S_, .f32⟩
  | 2 => ⟨S16384000, .f32⟩
  | 3 => ⟨S_, .f32⟩
  | 4 => ⟨S_, .f32⟩
  | 5 => ⟨S_, .f32⟩
  | 6 => ⟨S16384000, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .i1⟩
  | 15 => ⟨S_, .f32⟩
  | 16 => ⟨S_, .f32⟩
  | 17 => ⟨S1, .f32⟩
  | 18 => ⟨S1, .f32⟩
  | 19 => ⟨S1, .f32⟩
  | 20 => ⟨S_, .f32⟩
  | 21 => ⟨S1, .f32⟩
  | 22 => ⟨S_, .f32⟩
  | 23 => ⟨S16384000, .f32⟩
  | 24 => ⟨S16384000, .i1⟩
  | 25 => ⟨S16384000, .f32⟩
  | 26 => ⟨S16384000, .i1⟩
  | 27 => ⟨S16384000, .i1⟩
  | 28 => ⟨S16384000, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16384000, .f32⟩
  | 38 => ⟨S_, .f32⟩
  | 39 => ⟨S_, .f32⟩
  | 40 => ⟨S_, .f32⟩
  | 41 => ⟨S16384000, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i1⟩
  | 50 => ⟨S_, .f32⟩
  | 51 => ⟨S_, .f32⟩
  | 52 => ⟨S1, .f32⟩
  | 53 => ⟨S1, .f32⟩
  | 54 => ⟨S1, .f32⟩
  | 55 => ⟨S_, .f32⟩
  | 56 => ⟨S1, .f32⟩
  | 57 => ⟨S_, .f32⟩
  | 58 => ⟨S16384000, .f32⟩
  | 59 => ⟨S16384000, .i1⟩
  | 60 => ⟨S16384000, .f32⟩
  | 61 => ⟨S16384000, .i1⟩
  | 62 => ⟨S16384000, .i1⟩
  | 63 => ⟨S16384000, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S16384000, .f32⟩
  | 73 => ⟨S_, .f32⟩
  | 74 => ⟨S_, .f32⟩
  | 75 => ⟨S_, .f32⟩
  | 76 => ⟨S16384000, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S1, .f32⟩
  | 88 => ⟨S1, .f32⟩
  | 89 => ⟨S1, .f32⟩
  | 90 => ⟨S_, .f32⟩
  | 91 => ⟨S1, .f32⟩
  | 92 => ⟨S_, .f32⟩
  | 93 => ⟨S16384000, .f32⟩
  | 94 => ⟨S16384000, .i1⟩
  | 95 => ⟨S16384000, .f32⟩
  | 96 => ⟨S16384000, .i1⟩
  | 97 => ⟨S16384000, .i1⟩
  | 98 => ⟨S16384000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S16384000, .f32⟩
  | 108 => ⟨S_, .f32⟩
  | 109 => ⟨S_, .f32⟩
  | 110 => ⟨S_, .f32⟩
  | 111 => ⟨S16384000, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S1, .f32⟩
  | 123 => ⟨S1, .f32⟩
  | 124 => ⟨S1, .f32⟩
  | 125 => ⟨S_, .f32⟩
  | 126 => ⟨S1, .f32⟩
  | 127 => ⟨S_, .f32⟩
  | _ => ⟨S16384x1000, .f32⟩

abbrev hbmTy0_3 (i : Nat) : BufTy := match i % 128 with
  | 0 => ⟨S16384000, .f32⟩
  | 1 => ⟨S16384000, .i1⟩
  | 2 => ⟨S16384000, .f32⟩
  | 3 => ⟨S16384000, .i1⟩
  | 4 => ⟨S16384000, .i1⟩
  | 5 => ⟨S16384000, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384000, .f32⟩
  | 15 => ⟨S_, .f32⟩
  | 16 => ⟨S_, .f32⟩
  | 17 => ⟨S_, .f32⟩
  | 18 => ⟨S16384000, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .i1⟩
  | 27 => ⟨S_, .f32⟩
  | 28 => ⟨S_, .f32⟩
  | 29 => ⟨S1, .f32⟩
  | 30 => ⟨S1, .f32⟩
  | 31 => ⟨S1, .f32⟩
  | 32 => ⟨S_, .f32⟩
  | 33 => ⟨S1, .f32⟩
  | 34 => ⟨S_, .f32⟩
  | 35 => ⟨S16384000, .f32⟩
  | 36 => ⟨S16384000, .i1⟩
  | 37 => ⟨S16384000, .f32⟩
  | 38 => ⟨S16384000, .i1⟩
  | 39 => ⟨S16384000, .i1⟩
  | 40 => ⟨S16384000, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S16384000, .f32⟩
  | 50 => ⟨S_, .f32⟩
  | 51 => ⟨S_, .f32⟩
  | 52 => ⟨S_, .f32⟩
  | 53 => ⟨S16384000, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .i1⟩
  | 62 => ⟨S_, .f32⟩
  | 63 => ⟨S_, .f32⟩
  | 64 => ⟨S1, .f32⟩
  | 65 => ⟨S1, .f32⟩
  | 66 => ⟨S1, .f32⟩
  | 67 => ⟨S_, .f32⟩
  | 68 => ⟨S1, .f32⟩
  | 69 => ⟨S_, .f32⟩
  | 70 => ⟨S16384000, .f32⟩
  | 71 => ⟨S16384000, .i1⟩
  | 72 => ⟨S16384000, .f32⟩
  | 73 => ⟨S16384000, .i1⟩
  | 74 => ⟨S16384000, .i1⟩
  | 75 => ⟨S16384000, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S16384000, .f32⟩
  | 85 => ⟨S_, .f32⟩
  | 86 => ⟨S_, .f32⟩
  | 87 => ⟨S_, .f32⟩
  | 88 => ⟨S16384000, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .i1⟩
  | 97 => ⟨S_, .f32⟩
  | 98 => ⟨S_, .f32⟩
  | 99 => ⟨S1, .f32⟩
  | 100 => ⟨S1, .f32⟩
  | 101 => ⟨S1, .f32⟩
  | 102 => ⟨S_, .f32⟩
  | 103 => ⟨S1, .f32⟩
  | 104 => ⟨S_, .f32⟩
  | 105 => ⟨S16384000, .f32⟩
  | 106 => ⟨S16384000, .i1⟩
  | 107 => ⟨S16384000, .f32⟩
  | 108 => ⟨S16384000, .i1⟩
  | 109 => ⟨S16384000, .i1⟩
  | 110 => ⟨S16384000, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S16384000, .f32⟩
  | 120 => ⟨S_, .f32⟩
  | 121 => ⟨S_, .f32⟩
  | 122 => ⟨S_, .f32⟩
  | 123 => ⟨S16384000, .f32⟩
  | 124 => ⟨S_, .f32⟩
  | 125 => ⟨S_, .f32⟩
  | 126 => ⟨S_, .f32⟩
  | 127 => ⟨S_, .f32⟩
  | _ => ⟨S16384x1000, .f32⟩

abbrev hbmTy0_4 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S1, .f32⟩
  | 7 => ⟨S1, .f32⟩
  | 8 => ⟨S1, .f32⟩
  | 9 => ⟨S_, .f32⟩
  | 10 => ⟨S1, .f32⟩
  | 11 => ⟨S_, .f32⟩
  | 12 => ⟨S16384000, .f32⟩
  | 13 => ⟨S16384000, .i1⟩
  | 14 => ⟨S16384000, .f32⟩
  | 15 => ⟨S16384000, .i1⟩
  | 16 => ⟨S16384000, .i1⟩
  | 17 => ⟨S16384000, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S16384000, .f32⟩
  | 27 => ⟨S_, .f32⟩
  | 28 => ⟨S_, .f32⟩
  | 29 => ⟨S_, .f32⟩
  | 30 => ⟨S16384000, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S1, .f32⟩
  | 42 => ⟨S1, .f32⟩
  | 43 => ⟨S1x1, .f32⟩
  | _ => ⟨S16384x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_12 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_cst_15 : Ref sig .tc := ⟨.hbm, 81, rfl⟩
abbrev main_v63 : Ref sig .tc := ⟨.hbm, 82, rfl⟩
abbrev main_v64 : Ref sig .tc := ⟨.hbm, 83, rfl⟩
abbrev main_cst_16 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_17 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_18 : Ref sig .tc := ⟨.hbm, 94, rfl⟩
abbrev main_v73 : Ref sig .tc := ⟨.hbm, 95, rfl⟩
abbrev main_cst_19 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_cst_21 : Ref sig .tc := ⟨.hbm, 112, rfl⟩
abbrev main_v88 : Ref sig .tc := ⟨.hbm, 113, rfl⟩
abbrev main_cst_22 : Ref sig .tc := ⟨.hbm, 114, rfl⟩
abbrev main_v89 : Ref sig .tc := ⟨.hbm, 115, rfl⟩
abbrev main_cst_23 : Ref sig .tc := ⟨.hbm, 116, rfl⟩
abbrev main_v90 : Ref sig .tc := ⟨.hbm, 117, rfl⟩
abbrev main_v91 : Ref sig .tc := ⟨.hbm, 118, rfl⟩
abbrev main_cst_24 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_25 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_26 : Ref sig .tc := ⟨.hbm, 129, rfl⟩
abbrev main_v100 : Ref sig .tc := ⟨.hbm, 130, rfl⟩
abbrev main_cst_27 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_28 : Ref sig .tc := ⟨.hbm, 145, rfl⟩
abbrev main_v114 : Ref sig .tc := ⟨.hbm, 146, rfl⟩
abbrev main_cst_29 : Ref sig .tc := ⟨.hbm, 147, rfl⟩
abbrev main_v115 : Ref sig .tc := ⟨.hbm, 148, rfl⟩
abbrev main_cst_30 : Ref sig .tc := ⟨.hbm, 149, rfl⟩
abbrev main_v116 : Ref sig .tc := ⟨.hbm, 150, rfl⟩
abbrev main_cst_31 : Ref sig .tc := ⟨.hbm, 151, rfl⟩
abbrev main_v117 : Ref sig .tc := ⟨.hbm, 152, rfl⟩
abbrev main_v118 : Ref sig .tc := ⟨.hbm, 153, rfl⟩
abbrev main_cst_32 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_33 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_34 : Ref sig .tc := ⟨.hbm, 164, rfl⟩
abbrev main_v127 : Ref sig .tc := ⟨.hbm, 165, rfl⟩
abbrev main_cst_35 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_36 : Ref sig .tc := ⟨.hbm, 180, rfl⟩
abbrev main_v141 : Ref sig .tc := ⟨.hbm, 181, rfl⟩
abbrev main_cst_37 : Ref sig .tc := ⟨.hbm, 182, rfl⟩
abbrev main_v142 : Ref sig .tc := ⟨.hbm, 183, rfl⟩
abbrev main_cst_38 : Ref sig .tc := ⟨.hbm, 184, rfl⟩
abbrev main_v143 : Ref sig .tc := ⟨.hbm, 185, rfl⟩
abbrev main_cst_39 : Ref sig .tc := ⟨.hbm, 186, rfl⟩
abbrev main_v144 : Ref sig .tc := ⟨.hbm, 187, rfl⟩
abbrev main_v145 : Ref sig .tc := ⟨.hbm, 188, rfl⟩
abbrev main_cst_40 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_41 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_42 : Ref sig .tc := ⟨.hbm, 199, rfl⟩
abbrev main_v154 : Ref sig .tc := ⟨.hbm, 200, rfl⟩
abbrev main_cst_43 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_44 : Ref sig .tc := ⟨.hbm, 215, rfl⟩
abbrev main_v168 : Ref sig .tc := ⟨.hbm, 216, rfl⟩
abbrev main_cst_45 : Ref sig .tc := ⟨.hbm, 217, rfl⟩
abbrev main_v169 : Ref sig .tc := ⟨.hbm, 218, rfl⟩
abbrev main_cst_46 : Ref sig .tc := ⟨.hbm, 219, rfl⟩
abbrev main_v170 : Ref sig .tc := ⟨.hbm, 220, rfl⟩
abbrev main_cst_47 : Ref sig .tc := ⟨.hbm, 221, rfl⟩
abbrev main_v171 : Ref sig .tc := ⟨.hbm, 222, rfl⟩
abbrev main_v172 : Ref sig .tc := ⟨.hbm, 223, rfl⟩
abbrev main_cst_48 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_49 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_50 : Ref sig .tc := ⟨.hbm, 234, rfl⟩
abbrev main_v181 : Ref sig .tc := ⟨.hbm, 235, rfl⟩
abbrev main_cst_51 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_52 : Ref sig .tc := ⟨.hbm, 250, rfl⟩
abbrev main_v195 : Ref sig .tc := ⟨.hbm, 251, rfl⟩
abbrev main_cst_53 : Ref sig .tc := ⟨.hbm, 252, rfl⟩
abbrev main_v196 : Ref sig .tc := ⟨.hbm, 253, rfl⟩
abbrev main_cst_54 : Ref sig .tc := ⟨.hbm, 254, rfl⟩
abbrev main_v197 : Ref sig .tc := ⟨.hbm, 255, rfl⟩
abbrev main_cst_55 : Ref sig .tc := ⟨.hbm, 256, rfl⟩
abbrev main_v198 : Ref sig .tc := ⟨.hbm, 257, rfl⟩
abbrev main_v199 : Ref sig .tc := ⟨.hbm, 258, rfl⟩
abbrev main_cst_56 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_cst_57 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_58 : Ref sig .tc := ⟨.hbm, 269, rfl⟩
abbrev main_v208 : Ref sig .tc := ⟨.hbm, 270, rfl⟩
abbrev main_cst_59 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_60 : Ref sig .tc := ⟨.hbm, 285, rfl⟩
abbrev main_v222 : Ref sig .tc := ⟨.hbm, 286, rfl⟩
abbrev main_cst_61 : Ref sig .tc := ⟨.hbm, 287, rfl⟩
abbrev main_v223 : Ref sig .tc := ⟨.hbm, 288, rfl⟩
abbrev main_cst_62 : Ref sig .tc := ⟨.hbm, 289, rfl⟩
abbrev main_v224 : Ref sig .tc := ⟨.hbm, 290, rfl⟩
abbrev main_cst_63 : Ref sig .tc := ⟨.hbm, 291, rfl⟩
abbrev main_v225 : Ref sig .tc := ⟨.hbm, 292, rfl⟩
abbrev main_v226 : Ref sig .tc := ⟨.hbm, 293, rfl⟩
abbrev main_cst_64 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_65 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_cst_66 : Ref sig .tc := ⟨.hbm, 304, rfl⟩
abbrev main_v235 : Ref sig .tc := ⟨.hbm, 305, rfl⟩
abbrev main_cst_67 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_cst_68 : Ref sig .tc := ⟨.hbm, 320, rfl⟩
abbrev main_v249 : Ref sig .tc := ⟨.hbm, 321, rfl⟩
abbrev main_cst_69 : Ref sig .tc := ⟨.hbm, 322, rfl⟩
abbrev main_v250 : Ref sig .tc := ⟨.hbm, 323, rfl⟩
abbrev main_cst_70 : Ref sig .tc := ⟨.hbm, 324, rfl⟩
abbrev main_v251 : Ref sig .tc := ⟨.hbm, 325, rfl⟩
abbrev main_cst_71 : Ref sig .tc := ⟨.hbm, 326, rfl⟩
abbrev main_v252 : Ref sig .tc := ⟨.hbm, 327, rfl⟩
abbrev main_v253 : Ref sig .tc := ⟨.hbm, 328, rfl⟩
abbrev main_cst_72 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_cst_73 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_cst_74 : Ref sig .tc := ⟨.hbm, 339, rfl⟩
abbrev main_v262 : Ref sig .tc := ⟨.hbm, 340, rfl⟩
abbrev main_cst_75 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_cst_76 : Ref sig .tc := ⟨.hbm, 355, rfl⟩
abbrev main_v276 : Ref sig .tc := ⟨.hbm, 356, rfl⟩
abbrev main_cst_77 : Ref sig .tc := ⟨.hbm, 357, rfl⟩
abbrev main_v277 : Ref sig .tc := ⟨.hbm, 358, rfl⟩
abbrev main_cst_78 : Ref sig .tc := ⟨.hbm, 359, rfl⟩
abbrev main_v278 : Ref sig .tc := ⟨.hbm, 360, rfl⟩
abbrev main_cst_79 : Ref sig .tc := ⟨.hbm, 361, rfl⟩
abbrev main_v279 : Ref sig .tc := ⟨.hbm, 362, rfl⟩
abbrev main_v280 : Ref sig .tc := ⟨.hbm, 363, rfl⟩
abbrev main_cst_80 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_81 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_cst_82 : Ref sig .tc := ⟨.hbm, 374, rfl⟩
abbrev main_v289 : Ref sig .tc := ⟨.hbm, 375, rfl⟩
abbrev main_cst_83 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_cst_84 : Ref sig .tc := ⟨.hbm, 390, rfl⟩
abbrev main_v303 : Ref sig .tc := ⟨.hbm, 391, rfl⟩
abbrev main_cst_85 : Ref sig .tc := ⟨.hbm, 392, rfl⟩
abbrev main_v304 : Ref sig .tc := ⟨.hbm, 393, rfl⟩
abbrev main_cst_86 : Ref sig .tc := ⟨.hbm, 394, rfl⟩
abbrev main_v305 : Ref sig .tc := ⟨.hbm, 395, rfl⟩
abbrev main_cst_87 : Ref sig .tc := ⟨.hbm, 396, rfl⟩
abbrev main_v306 : Ref sig .tc := ⟨.hbm, 397, rfl⟩
abbrev main_v307 : Ref sig .tc := ⟨.hbm, 398, rfl⟩
abbrev main_cst_88 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_cst_89 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_cst_90 : Ref sig .tc := ⟨.hbm, 409, rfl⟩
abbrev main_v316 : Ref sig .tc := ⟨.hbm, 410, rfl⟩
abbrev main_cst_91 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_cst_92 : Ref sig .tc := ⟨.hbm, 425, rfl⟩
abbrev main_v330 : Ref sig .tc := ⟨.hbm, 426, rfl⟩
abbrev main_cst_93 : Ref sig .tc := ⟨.hbm, 427, rfl⟩
abbrev main_v331 : Ref sig .tc := ⟨.hbm, 428, rfl⟩
abbrev main_cst_94 : Ref sig .tc := ⟨.hbm, 429, rfl⟩
abbrev main_v332 : Ref sig .tc := ⟨.hbm, 430, rfl⟩
abbrev main_cst_95 : Ref sig .tc := ⟨.hbm, 431, rfl⟩
abbrev main_v333 : Ref sig .tc := ⟨.hbm, 432, rfl⟩
abbrev main_v334 : Ref sig .tc := ⟨.hbm, 433, rfl⟩
abbrev main_cst_96 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_cst_97 : Ref sig .tc := ⟨.hbm, 438, rfl⟩
abbrev main_v338 : Ref sig .tc := ⟨.hbm, 439, rfl⟩
abbrev main_v339 : Ref sig .tc := ⟨.hbm, 440, rfl⟩
abbrev main_v340 : Ref sig .tc := ⟨.hbm, 441, rfl⟩
abbrev main_v341 : Ref sig .tc := ⟨.hbm, 442, rfl⟩
abbrev main_v342 : Ref sig .tc := ⟨.hbm, 443, rfl⟩
abbrev main_cst_98 : Ref sig .tc := ⟨.hbm, 444, rfl⟩
abbrev main_v343 : Ref sig .tc := ⟨.hbm, 445, rfl⟩
abbrev main_cst_99 : Ref sig .tc := ⟨.hbm, 446, rfl⟩
abbrev main_v344 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_v351 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_cst_100 : Ref sig .tc := ⟨.hbm, 460, rfl⟩
abbrev main_v357 : Ref sig .tc := ⟨.hbm, 461, rfl⟩
abbrev main_cst_101 : Ref sig .tc := ⟨.hbm, 462, rfl⟩
abbrev main_v358 : Ref sig .tc := ⟨.hbm, 463, rfl⟩
abbrev main_cst_102 : Ref sig .tc := ⟨.hbm, 464, rfl⟩
abbrev main_v359 : Ref sig .tc := ⟨.hbm, 465, rfl⟩
abbrev main_cst_103 : Ref sig .tc := ⟨.hbm, 466, rfl⟩
abbrev main_v360 : Ref sig .tc := ⟨.hbm, 467, rfl⟩
abbrev main_v361 : Ref sig .tc := ⟨.hbm, 468, rfl⟩
abbrev main_cst_104 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_cst_105 : Ref sig .tc := ⟨.hbm, 473, rfl⟩
abbrev main_v365 : Ref sig .tc := ⟨.hbm, 474, rfl⟩
abbrev main_v366 : Ref sig .tc := ⟨.hbm, 475, rfl⟩
abbrev main_v367 : Ref sig .tc := ⟨.hbm, 476, rfl⟩
abbrev main_v368 : Ref sig .tc := ⟨.hbm, 477, rfl⟩
abbrev main_v369 : Ref sig .tc := ⟨.hbm, 478, rfl⟩
abbrev main_cst_106 : Ref sig .tc := ⟨.hbm, 479, rfl⟩
abbrev main_v370 : Ref sig .tc := ⟨.hbm, 480, rfl⟩
abbrev main_cst_107 : Ref sig .tc := ⟨.hbm, 481, rfl⟩
abbrev main_v371 : Ref sig .tc := ⟨.hbm, 482, rfl⟩
abbrev main_v372 : Ref sig .tc := ⟨.hbm, 483, rfl⟩
abbrev main_v373 : Ref sig .tc := ⟨.hbm, 484, rfl⟩
abbrev main_v374 : Ref sig .tc := ⟨.hbm, 485, rfl⟩
abbrev main_v375 : Ref sig .tc := ⟨.hbm, 486, rfl⟩
abbrev main_v376 : Ref sig .tc := ⟨.hbm, 487, rfl⟩
abbrev main_v377 : Ref sig .tc := ⟨.hbm, 488, rfl⟩
abbrev main_v378 : Ref sig .tc := ⟨.hbm, 489, rfl⟩
abbrev main_v379 : Ref sig .tc := ⟨.hbm, 490, rfl⟩
abbrev main_v380 : Ref sig .tc := ⟨.hbm, 491, rfl⟩
abbrev main_v381 : Ref sig .tc := ⟨.hbm, 492, rfl⟩
abbrev main_v382 : Ref sig .tc := ⟨.hbm, 493, rfl⟩
abbrev main_v383 : Ref sig .tc := ⟨.hbm, 494, rfl⟩
abbrev main_cst_108 : Ref sig .tc := ⟨.hbm, 495, rfl⟩
abbrev main_v384 : Ref sig .tc := ⟨.hbm, 496, rfl⟩
abbrev main_cst_109 : Ref sig .tc := ⟨.hbm, 497, rfl⟩
abbrev main_v385 : Ref sig .tc := ⟨.hbm, 498, rfl⟩
abbrev main_cst_110 : Ref sig .tc := ⟨.hbm, 499, rfl⟩
abbrev main_v386 : Ref sig .tc := ⟨.hbm, 500, rfl⟩
abbrev main_cst_111 : Ref sig .tc := ⟨.hbm, 501, rfl⟩
abbrev main_v387 : Ref sig .tc := ⟨.hbm, 502, rfl⟩
abbrev main_v388 : Ref sig .tc := ⟨.hbm, 503, rfl⟩
abbrev main_cst_112 : Ref sig .tc := ⟨.hbm, 504, rfl⟩
abbrev main_v389 : Ref sig .tc := ⟨.hbm, 505, rfl⟩
abbrev main_v390 : Ref sig .tc := ⟨.hbm, 506, rfl⟩
abbrev main_v391 : Ref sig .tc := ⟨.hbm, 507, rfl⟩
abbrev main_cst_113 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_cst_114 : Ref sig .tc := ⟨.hbm, 514, rfl⟩
abbrev main_v397 : Ref sig .tc := ⟨.hbm, 515, rfl⟩
abbrev main_cst_115 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_v405 : Ref sig .tc := ⟨.hbm, 524, rfl⟩
abbrev main_v406 : Ref sig .tc := ⟨.hbm, 525, rfl⟩
abbrev main_v407 : Ref sig .tc := ⟨.hbm, 526, rfl⟩
abbrev main_v408 : Ref sig .tc := ⟨.hbm, 527, rfl⟩
abbrev main_v409 : Ref sig .tc := ⟨.hbm, 528, rfl⟩
abbrev main_v410 : Ref sig .tc := ⟨.hbm, 529, rfl⟩
abbrev main_cst_116 : Ref sig .tc := ⟨.hbm, 530, rfl⟩
abbrev main_v411 : Ref sig .tc := ⟨.hbm, 531, rfl⟩
abbrev main_cst_117 : Ref sig .tc := ⟨.hbm, 532, rfl⟩
abbrev main_v412 : Ref sig .tc := ⟨.hbm, 533, rfl⟩
abbrev main_cst_118 : Ref sig .tc := ⟨.hbm, 534, rfl⟩
abbrev main_v413 : Ref sig .tc := ⟨.hbm, 535, rfl⟩
abbrev main_cst_119 : Ref sig .tc := ⟨.hbm, 536, rfl⟩
abbrev main_v414 : Ref sig .tc := ⟨.hbm, 537, rfl⟩
abbrev main_v415 : Ref sig .tc := ⟨.hbm, 538, rfl⟩
abbrev main_cst_120 : Ref sig .tc := ⟨.hbm, 539, rfl⟩
abbrev main_v416 : Ref sig .tc := ⟨.hbm, 540, rfl⟩
abbrev main_v417 : Ref sig .tc := ⟨.hbm, 541, rfl⟩
abbrev main_v418 : Ref sig .tc := ⟨.hbm, 542, rfl⟩
abbrev main_cst_121 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_v422 : Ref sig .tc := ⟨.hbm, 547, rfl⟩
abbrev main_v423 : Ref sig .tc := ⟨.hbm, 548, rfl⟩
abbrev main_cst_122 : Ref sig .tc := ⟨.hbm, 549, rfl⟩
abbrev main_v424 : Ref sig .tc := ⟨.hbm, 550, rfl⟩
abbrev main_cst_123 : Ref sig .tc := ⟨.hbm, 551, rfl⟩
abbrev main_v425 : Ref sig .tc := ⟨.hbm, 552, rfl⟩
abbrev main_v426 : Ref sig .tc := ⟨.hbm, 553, rfl⟩
abbrev main_v427 : Ref sig .tc := ⟨.hbm, 554, rfl⟩
abbrev main_v428 : Ref sig .tc := ⟨.hbm, 555, rfl⟩

abbrev nD : Nat := 1
abbrev τ : Topo := Topo.v7x

variable {F : FTy → Type} [FloatOps F]
-- ==== Proof.KI.Word.lean ====
/-
  The loop's words: the offset a trip loads at (the row rounded down to a multiple of eight), and the two minima of
  row numbers — where the loop starts and where a trip goes next.
-/
module

public import proofs.«01_k».proof.Proof.Gen.KernelIdeal.Skeleton
public import Idealize.ShloMosaic.Lib.Tactic
public import Idealize.ShloMosaic.Lib.WordCmp
public import Idealize.ShloMosaic.PureOps.Reduce
public import Idealize.ShloMosaic.Lib.Pointwise

@[expose] public section

set_option maxRecDepth 16384

noncomputable section

namespace Cert.KernelIdeal.Hand

open Cert.KernelIdeal Cert.KernelIdeal.Gen
open Idealize.ShloMosaic

variable {F : FTy → Type} [FloatOps F]

/-- The offset of the row group a row number lies in: the row rounded down to a multiple of eight. -/
theorem base_ofNat : ∀ n : Fin 2048, k0_mult1 (BitVec.ofNat 32 n.val) = BitVec.ofNat 32 (n.val / 8 * 8) := by
  decide +kernel

/-- The same of a word below 2048. -/
theorem base_eq (r : BitVec 32) (h : r.toNat < 2048) : k0_mult1 r = BitVec.ofNat 32 (r.toNat / 8 * 8) := by
  have e := base_ofNat ⟨r.toNat, h⟩
  rwa [show BitVec.ofNat 32 (⟨r.toNat, h⟩ : Fin 2048).val = r from by simp] at e

/-- It as a number. -/
theorem base_toNat (r : BitVec 32) (h : r.toNat < 2048) : (k0_mult1 r).toNat = r.toNat / 8 * 8 := by
  rw [base_eq r h, BitVec.toNat_ofNat]; omega

/-- The two loads' offsets, by that number. -/
theorem off1_eq (r : BitVec 32) : k0_off1 r = ![(k0_mult1 r).toNat, 0] := rfl
/-- Where a group's labels start. -/
theorem off2_eq (r : BitVec 32) : k0_off2 r = ![0, (k0_mult1 r).toNat, 0] := rfl

/-- Below 2048 a trip's side condition holds: the offset is a multiple of eight and the eight rows are in range. -/
theorem chk_of_lt (r : BitVec 32) (h : r.toNat < 2048) : k0_chk1 r := by
  have e := base_toNat r h
  refine ⟨?_, ?_, ?_⟩
  · rw [e]; exact Dvd.intro_left _ rfl
  · intro a; rw [off1_eq, e]
    fin_cases a
    · show r.toNat / 8 * 8 + 8 ≤ 2048; omega
    · show 0 + 1000 ≤ 1000; omega
  · intro a; rw [off2_eq, e]
    fin_cases a
    · show 0 + 1 ≤ 1; omega
    · show r.toNat / 8 * 8 + 8 ≤ 2048; omega
    · show 0 + 1 ≤ 1; omega

/-- The loop's condition is the comparison of numbers, for a word at most 2048. -/
theorem cond_iff (r : BitVec 32) (h : r.toNat ≤ 2048) : Scalar.cmpi .slt r 2048#32 = 1#1 ↔ r.toNat < 2048 := by
  have key : ∀ n : Fin 2049, Scalar.cmpi .slt (BitVec.ofNat 32 n.val) 2048#32 = 1#1 ↔ n.val < 2048 := by decide +kernel
  have e := key ⟨r.toNat, by omega⟩
  rwa [show BitVec.ofNat 32 (⟨r.toNat, by omega⟩ : Fin 2049).val = r from by simp] at e

/-! ## A minimum of words -/

/-- The signed minimum of two words that are small numbers is the minimum of the numbers. -/
theorem minsi_toNat (x y : BitVec 32) (hx : x.toNat < 2 ^ 31) (hy : y.toNat < 2 ^ 31) :
    (IntOp.minsi x y).toNat = min x.toNat y.toNat := by
  unfold IntOp.minsi
  rw [BitVec.slt_eq_decide]
  have ex : x.toInt = x.toNat := BitVec.toInt_eq_toNat_of_lt (by omega)
  have ey : y.toInt = y.toNat := BitVec.toInt_eq_toNat_of_lt (by omega)
  rw [ex, ey]
  by_cases h : (x.toNat : ℤ) < y.toNat
  · rw [if_pos (decide_eq_true h)]; omega
  · rw [if_neg (by simpa using h)]; omega

/-- A minimum over a set of small words, as a number, is the minimum of the numbers. -/
theorem fold_minsi {ι : Type} [DecidableEq ι] (S : Finset ι) (b : BitVec 32) (f : ι → BitVec 32) (hb : b.toNat < 2 ^ 31)
    (hf : ∀ i, (f i).toNat < 2 ^ 31) :
    (S.fold IntOp.minsi b f).toNat = S.fold min b.toNat fun i => (f i).toNat := by
  have hlt : ∀ S : Finset ι, (S.fold min b.toNat fun i => (f i).toNat) ≤ b.toNat := fun S =>
    Finset.fold_min_le _ |>.mpr (.inl le_rfl)
  induction S using Finset.induction with
  | empty => rfl
  | insert a S ha ih =>
    rw [Finset.fold_insert ha, Finset.fold_insert ha, minsi_toNat _ _ (hf a) (by rw [ih]; exact lt_of_le_of_lt (hlt S) hb), ih]

/-- The row number at an index of the column of flags is that row's. -/
theorem iota_row (j : Fin 2048) : (iota .tc S2048x1 32 [0] iota_S2048x1_d0_w32 (ix2 j 0) : BitVec 32) = BitVec.ofNat 32 j.val := by
  pointwise

/-- The minimum of a column of words. -/
def colMin (w : IVec S2048x1 32) : BitVec 32 :=
  extractAt ![0, 0, 0] (shapeCast S1x1x1 (multiReductionI .minsi [1, 2] S1 (shapeCast S1x2048x1 w shapeCasts_S2048x1_S1x2048x1)
    2147483647#32 reduces_S1x2048x1_S1 rfl) shapeCasts_S1_S1x1x1) inpos_S1x1x1_p0_0_0

/-- It is the greatest number below the cap and below every entry. -/
theorem le_colMin_iff (w : IVec S2048x1 32) (hw : ∀ j, (w j).toNat < 2 ^ 31) (k : ℕ) :
    k ≤ (colMin w).toNat ↔ k ≤ 2147483647 ∧ ∀ r : Fin 2048, k ≤ (w (ix2 r 0)).toNat := by
  have e : colMin w = (Finset.univ.filter fun i => reduces_S1x2048x1_S1.drop i = ix1 0).fold IntOp.minsi 2147483647#32
      (shapeCast S1x2048x1 w shapeCasts_S2048x1_S1x2048x1) := by
    unfold colMin
    have e0 := multiReductionI_eq_fold .minsi (shapeCast S1x2048x1 w shapeCasts_S2048x1_S1x2048x1) 2147483647#32 reduces_S1x2048x1_S1 rfl (ix1 0)
    refine Eq.trans ?_ e0
    pointwise
  rw [e, fold_minsi _ _ (shapeCast S1x2048x1 w shapeCasts_S2048x1_S1x2048x1) (by decide) (fun i => hw _), Finset.le_fold_min]
  refine and_congr Iff.rfl ⟨fun h r => ?_, fun h i _ => ?_⟩
  · have := h (ix3 0 r 0) (Finset.mem_filter.mpr ⟨Finset.mem_univ _, funext fun a => by fin_cases a; exact Subsingleton.elim (α := Fin 1) _ _⟩)
    refine this.trans (le_of_eq ?_)
    congr 1
    pointwise
  · idx_vars i
    have := h i1
    refine this.trans (le_of_eq ?_)
    congr 1
    pointwise

/-- A minimum over the rows that satisfy `p`, 2048 standing for "none": it is the greatest number that is at most 2048
    and at most every row that satisfies `p`. -/
theorem le_colMin_rows (w : IVec S2048x1 32) (p : Fin 2048 → Prop) [DecidablePred p]
    (hw : ∀ r : Fin 2048, w (ix2 r 0) = if p r then BitVec.ofNat 32 r.val else 2048#32) (k : ℕ) :
    k ≤ (colMin w).toNat ↔ k ≤ 2048 ∧ ∀ r : Fin 2048, p r → k ≤ r.val := by
  have hn : ∀ r : Fin 2048, (w (ix2 r 0)).toNat = if p r then r.val else 2048 := fun r => by
    rw [hw r]; split
    · rw [BitVec.toNat_ofNat]; have := r.isLt; omega
    · rfl
  rw [le_colMin_iff w (fun j => by
    idx_vars j
    obtain rfl : j1 = 0 := Subsingleton.elim _ _
    rw [hn j0]; have := j0.isLt; split <;> omega)]
  simp only [hn]
  constructor
  · rintro ⟨-, h⟩
    refine ⟨?_, fun r hr => by simpa only [if_pos hr] using h r⟩
    have h0 := h 0
    split at h0 <;> omega
  · rintro ⟨h, h'⟩
    refine ⟨by omega, fun r => ?_⟩
    split
    · exact h' r ‹_›
    · exact h

/-- Where the loop starts: the first row of the block that is hot, 2048 if none is. -/
def startR (hot : IVec S2048x1 1) : BitVec 32 :=
  colMin (select hot (iota .tc S2048x1 32 [0] iota_S2048x1_d0_w32) (broadcast S2048x1 2048#32))

/-- Where a trip at offset `b` goes next: the first hot row past the eight rows at `b`, 2048 if none is. -/
def nextR (hot : IVec S2048x1 1) (b : BitVec 32) : BitVec 32 :=
  colMin (select (andi hot (cmpi .sge (iota .tc S2048x1 32 [0] iota_S2048x1_d0_w32) (broadcast S2048x1 (Scalar.addi b 8#32))))
    (iota .tc S2048x1 32 [0] iota_S2048x1_d0_w32) (broadcast S2048x1 2048#32))

/-- The printed start and step are these. -/
theorem startR_eq (x : Vec F S2048x1000 .f32) : extractAt ![0, 0, 0] (k0_pay3 x) inpos_S1x1x1_p0_0_0 = startR (k0_pay2 x) := rfl
/-- The printed step is this one. -/
theorem nextR_eq (hot : IVec S2048x1 1) (b : BitVec 32) :
    extractAt ![0, 0, 0] (k0_pay10 hot b) inpos_S1x1x1_p0_0_0 = nextR hot b := rfl

/-- What the start is, by rows. -/
theorem le_startR (hot : IVec S2048x1 1) (k : ℕ) :
    k ≤ (startR hot).toNat ↔ k ≤ 2048 ∧ ∀ r : Fin 2048, hot (ix2 r 0) = 1#1 → k ≤ r.val := by
  refine le_colMin_rows _ (fun r => hot (ix2 r 0) = 1#1) (fun r => ?_) k
  show (if hot (ix2 r 0) = 1#1 then _ else _) = _
  rw [iota_row]; rfl

/-- What the next row is, by rows. -/
theorem le_nextR (hot : IVec S2048x1 1) (b : BitVec 32) (hb : b.toNat ≤ 2048) (k : ℕ) :
    k ≤ (nextR hot b).toNat ↔ k ≤ 2048 ∧ ∀ r : Fin 2048, (hot (ix2 r 0) = 1#1 ∧ b.toNat + 8 ≤ r.val) → k ≤ r.val := by
  refine le_colMin_rows _ (fun r => hot (ix2 r 0) = 1#1 ∧ b.toNat + 8 ≤ r.val) (fun r => ?_) k
  show (if IntOp.andi (hot (ix2 r 0)) (IntOp.cmpi .sge (iota .tc S2048x1 32 [0] iota_S2048x1_d0_w32 (ix2 r 0)) (Scalar.addi b 8#32)) = 1#1 then
    iota .tc S2048x1 32 [0] iota_S2048x1_d0_w32 (ix2 r 0) else _) = _
  rw [iota_row]
  have hr := r.isLt
  have e8 : (Scalar.addi b 8#32).toNat = b.toNat + 8 := by
    show (b + 8#32).toNat = _
    rw [BitVec.toNat_add]; show (b.toNat + 8) % 2 ^ 32 = _; omega
  have hc : IntOp.cmpi .sge (BitVec.ofNat 32 r.val) (Scalar.addi b 8#32) = if b.toNat + 8 ≤ r.val then 1#1 else 0#1 := by
    have ex : (BitVec.ofNat 32 r.val).toInt = r.val := by
      rw [BitVec.toInt_eq_toNat_of_lt (by rw [BitVec.toNat_ofNat]; omega), BitVec.toNat_ofNat]; omega
    have ey : (Scalar.addi b 8#32).toInt = (b.toNat + 8 : ℕ) := by
      rw [BitVec.toInt_eq_toNat_of_lt (by rw [e8]; omega), e8]
    unfold IntOp.cmpi
    simp only [BitVec.sle_eq_decide, ex, ey]
    by_cases h : b.toNat + 8 ≤ r.val
    · rw [if_pos h, decide_eq_true (by exact_mod_cast h)]; rfl
    · rw [if_neg h, decide_eq_false (by exact_mod_cast h)]; rfl
  rw [hc]
  have hb1 : hot (ix2 r 0) = 0#1 ∨ hot (ix2 r 0) = 1#1 := by
    generalize hot (ix2 r 0) = y; revert y; decide
  refine if_congr ?_ rfl rfl
  by_cases h : b.toNat + 8 ≤ r.val <;> rcases hb1 with h1 | h1 <;> simp only [h, h1, if_true, if_false] <;> decide

end Cert.KernelIdeal.Hand

end
-- ==== Proof.KI.Loop.lean ====
/-
  The kernel's uncounted loop as a function: from a row number and an accumulator, each trip adds the eight rows' bin
  tails and goes to the next hot row, until none is left; and its label's specification, met by the printed body under
  the naturals by induction on the rows still ahead.
-/
module

public import proofs.«01_k».proof.Proof.KI.Word
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

/-- The variants the label is answered under: the naturals, a trip count still ahead. -/
abbrev 𝒱₀ : Variants := Variants.nat

/-! ## A trip's arithmetic -/

/-- The eight rows' three lists of sums added to the accumulator: from the rows' softmax `pg`, their labels'
    probabilities `pl`, and the first bound's flags `g1` and counts `n1`. -/
def addTails (pg : FVec F S8x1000 .f32) (pl : FVec F S8 .f32) (g1 : IVec S8x1000 1) (n1 : IVec S1x8x1000 32)
    (acc : FVec F S3x16 .f32) : FVec F S3x16 .f32 :=
  let c14 : F .f32 := Scalar.ofBits .f32 0x3F6EEEF0#32
  let z : F .f32 := Scalar.ofBits .f32 0x00000000#32
  k0_pay9 acc
    (k0_pay74 pg (k0_pay15 n1) (k0_pay19 pg) (k0_pay24 (extractAt ![0, 0, 0] (k0_pay23 pg) inpos_S1x1x1_p0_0_0)) (k0_pay28 pg)
      (k0_pay32 pg) (k0_pay37 pg) (k0_pay41 pg) (k0_pay46 pg) (k0_pay50 pg) (k0_pay55 pg) (k0_pay59 pg) (k0_pay64 pg) (k0_pay68 pg) c14)
    (k0_pay7 (k0_pay65 pg) (k0_pay69 pg) (k0_pay72 pg c14) z k0_pay75 (k0_pay76 (k0_pay16 pg g1)) (k0_pay77 (k0_pay20 pg))
      (k0_pay78 (k0_pay25 pg (k0_pay22 pg))) (k0_pay79 (k0_pay29 pg)) (k0_pay80 (k0_pay34 (k0_pay33 pg))) (k0_pay81 (k0_pay38 pg))
      (k0_pay82 (k0_pay43 (k0_pay42 pg))) (k0_pay83 (k0_pay47 pg)) (k0_pay84 (k0_pay51 pg)) (k0_pay85 (k0_pay56 pg)) (k0_pay86 (k0_pay60 pg)))
    (k0_pay8 (k0_pay17 pl) (k0_pay21 pl) (k0_pay26 pl) (k0_pay30 pl) (k0_pay35 pl) (k0_pay39 pl) (k0_pay44 pl) (k0_pay48 pl)
      (k0_pay53 (k0_pay52 pl)) (k0_pay57 pl) (k0_pay62 (k0_pay61 pl)) (k0_pay66 pl) (k0_pay70 pl) (k0_pay73 pl))

/-- The eight rows and their labels a trip at row `r` loads. -/
abbrev rows (x : Vec F S2048x1000 .f32) (r : BitVec 32) (h : k0_chk1 r) : Vec F S8x1000 .f32 :=
  View.ld x (Rect.unit (s := S2048x1000) (k0_off1 r) S8x1000.size (k0_off1_inb r h))
/-- The labels of a group of eight rows. -/
abbrev labs (y : Vec F S1x2048x1 .i32) (r : BitVec 32) (h : k0_chk1 r) : Vec F S1x8x1 .i32 :=
  View.ld y (Rect.unit (s := S1x2048x1) (k0_off2 r) S1x8x1.size (k0_off2_inb r h))

/-- A trip's accumulator. -/
def stepAcc (x : Vec F S2048x1000 .f32) (y : Vec F S1x2048x1 .i32) (r : BitVec 32) (h : k0_chk1 r) (acc : FVec F S3x16 .f32) :
    FVec F S3x16 .f32 :=
  addTails (k0_pay11 (rows x r h)) (k0_pay12 (rows x r h) (labs y r h)) (k0_pay13 (rows x r h)) (k0_pay14 (rows x r h)) acc

/-- The loop from row `r` and accumulator `acc`, `n` trips at most. -/
def loopRes (x : Vec F S2048x1000 .f32) (y : Vec F S1x2048x1 .i32) (hot : IVec S2048x1 1) :
    ℕ → BitVec 32 → FVec F S3x16 .f32 → BitVec 32 × FVec F S3x16 .f32
  | 0, r, acc => (r, acc)
  | n + 1, r, acc =>
    if h : r.toNat < 2048 then loopRes x y hot n (nextR hot (k0_mult1 r)) (stepAcc x y r (chk_of_lt r h) acc) else (r, acc)

/-- A trip goes forward and stays within the block. -/
theorem nextR_le (hot : IVec S2048x1 1) (r : BitVec 32) (h : r.toNat < 2048) : (nextR hot (k0_mult1 r)).toNat ≤ 2048 := by
  have e := base_toNat r h
  exact ((le_nextR hot (k0_mult1 r) (by omega) _).mp le_rfl).1
/-- The next row visited comes later. -/
theorem lt_nextR (hot : IVec S2048x1 1) (r : BitVec 32) (h : r.toNat < 2048) : r.toNat + 1 ≤ (nextR hot (k0_mult1 r)).toNat := by
  have e := base_toNat r h
  exact (le_nextR hot (k0_mult1 r) (by omega) _).mpr ⟨by omega, fun j hj => by omega⟩

/-! ## The label's specification -/

variable (c : Dev nD) (arg1 : Memref sig .tc .vmem S2048x1000 .f32) (harg1 : arg1.IsWhole)
  (arg2 : Memref sig .tc .vmem S1x2048x1 .i32) (harg2 : arg2.IsWhole)

/-- The specification: given the block and its labels, give them back and return the loop's function. -/
def spec (x : Vec F S2048x1000 .f32) (y : Vec F S1x2048x1 .i32) (hot : IVec S2048x1 1) (n : ℕ) (r : BitVec 32)
    (acc : FVec F S3x16 .f32) : sWPT 𝕄 (BitVec 32 × FVec F S3x16 .f32) := do
  consume iprop(owns (c : Thread nD τ) arg1 fullShare x ∗ owns (c : Thread nD τ) arg2 fullShare y)
  produce iprop(owns (c : Thread nD τ) arg1 fullShare x ∗ owns (c : Thread nD τ) arg2 fullShare y)
  pure (loopRes x y hot n r acc)

/-- The loop's rule at one trip. -/
theorem spec_apply (x : Vec F S2048x1000 .f32) (y : Vec F S1x2048x1 .i32) (hot : IVec S2048x1 1) (n : ℕ) (r : BitVec 32)
    (acc : FVec F S3x16 .f32) (K : BitVec 32 × FVec F S3x16 .f32 → sProp 𝕄) :
    spec c arg1 arg2 x y hot n r acc K
      = iprop((owns (c : Thread nD τ) arg1 fullShare x ∗ owns (c : Thread nD τ) arg2 fullShare y)
        ∗ ((owns (c : Thread nD τ) arg1 fullShare x ∗ owns (c : Thread nD τ) arg2 fullShare y) -∗ K (loopRes x y hot n r acc))) := rfl

/-- A trip's own call of the label, answered by the specification at one trip fewer. -/
theorem call_le (i : grid0.Coords) (x : Vec F S2048x1000 .f32) (y : Vec F S1x2048x1 .i32) (hot : IVec S2048x1 1) (E : Set ℕ)
    (n : ℕ) (r : BitVec 32) (acc : FVec F S3x16 .f32) (K : BitVec 32 × FVec F S3x16 .f32 → sProp 𝕄)
    (h : ∀ K, spec c arg1 arg2 x y hot n r acc K ⊢ wp frame (wpE (defs₀ (F := F)) 𝒱₀ (c : Thread nD τ) (some n)) E
          (defs₀ (F := F) .tc 1 ⟨i, arg1, harg1, arg2, harg2, hot, r, acc⟩) K) :
    spec c arg1 arg2 x y hot n r acc (fun z => wp frame (wpE (defs₀ (F := F)) 𝒱₀ (c : Thread nD τ) (some (n + 1))) E (Prog.ret z) K)
      ⊢ wp frame (wpE (defs₀ (F := F)) 𝒱₀ (c : Thread nD τ) (some (n + 1))) E
            (.op (.call (1 : (Λ₀ F).Label) ⟨i, arg1, harg1, arg2, harg2, hot, r, acc⟩) Prog.ret) K :=
  wp_call_spec (Λ := Λ₀ F) (defs := defs₀ (F := F)) (ℓ := 1) (a := ⟨i, arg1, harg1, arg2, harg2, hot, r, acc⟩) (k := Prog.ret) (Q := K)
    𝒱₀ (c : Thread nD τ) (some (n + 1)) E (spec c arg1 arg2 x y hot n r acc) n (fun u hu => by cases hu; exact Nat.lt_succ_self n) h

set_option maxHeartbeats 1000000 in
/-- The printed body meets it, entered at any bound on the trips still ahead. -/
theorem spec_le (i : grid0.Coords) (x : Vec F S2048x1000 .f32) (y : Vec F S1x2048x1 .i32) (hot : IVec S2048x1 1) (E : Set ℕ) :
    ∀ n (r : BitVec 32) acc K, r.toNat ≤ 2048 → 2048 - r.toNat ≤ n → spec c arg1 arg2 x y hot n r acc K
      ⊢ wp frame (wpE (defs₀ (F := F)) 𝒱₀ (c : Thread nD τ) (some n)) E
          (defs₀ (F := F) .tc 1 ⟨i, arg1, harg1, arg2, harg2, hot, r, acc⟩) K := by
  intro n
  induction n with
  | zero =>
    intro r acc K hr hn
    rw [spec_apply]
    show _ ⊢ wp frame (wpE (defs₀ (F := F)) 𝒱₀ (c : Thread nD τ) (some 0)) E (cc0_while1 i arg1 harg1 arg2 harg2 hot r acc) K
    simp only [cc0_while1_eq_skeleton]; unfold cc0_while1_skel
    have hc : ¬ Scalar.cmpi .slt r 2048#32 = 1#1 := fun h => by have := (cond_iff r hr).mp h; omega
    rw [if_neg hc, loopRes]
    simp only [Prog.pure_eq_ret]
    iintro ⟨H, Hk⟩
    rw [wp_ret]; imodintro
    iapply Hk
    iexact H
  | succ n ih =>
    intro r acc K hr hn
    rw [spec_apply]
    show _ ⊢ wp frame (wpE (defs₀ (F := F)) 𝒱₀ (c : Thread nD τ) (some (n + 1))) E (cc0_while1 i arg1 harg1 arg2 harg2 hot r acc) K
    simp only [cc0_while1_eq_skeleton]; unfold cc0_while1_skel
    by_cases h : r.toNat < 2048
    · have hc : Scalar.cmpi .slt r 2048#32 = 1#1 := (cond_iff r hr).mpr h
      have hchk := chk_of_lt r h
      rw [if_pos hc, loopRes, dif_pos h]
      have hle := nextR_le hot r h
      have hlt := lt_nextR hot r h
      unfold owns
      iintro ⟨⟨⟨%f1, %hf1, H1⟩, ⟨%f2, %hf2, H2⟩⟩, Hk⟩
      sl_exec (disch := sl_exact hchk)
      subst hf1 hf2
      iapply (call_le c arg1 harg1 arg2 harg2 i (arg1.view.read (Elt F) f1) (arg2.view.read (Elt F) f2) hot E n (nextR hot (k0_mult1 r))
            (stepAcc (arg1.view.read (Elt F) f1) (arg2.view.read (Elt F) f2) r hchk acc) K (fun K' => ih _ _ K' hle (by omega)))
      rw [spec_apply]
      isplitl [H1 H2]
      · unfold owns
        isplitl [H1]
        · iexists _; isplitr; · ipureintro; rfl
          iexact H1
        iexists _; isplitr; · ipureintro; rfl
        iexact H2
      iintro H
      rw [wp_ret]; imodintro
      iapply Hk
      unfold owns
      iexact H
    · have hc : ¬ Scalar.cmpi .slt r 2048#32 = 1#1 := fun h' => h ((cond_iff r hr).mp h')
      rw [if_neg hc, loopRes, dif_neg h]
      simp only [Prog.pure_eq_ret]
      iintro ⟨H, Hk⟩
      rw [wp_ret]; imodintro
      iapply Hk
      iexact H

end Cert.KernelIdeal.Hand

end
-- ==== Proof.KI.Body.lean ====
/-
  The kernel body's triple, by the branch a grid point takes: what it leaves in the accumulator and the result is
  stated with the loop's function.
-/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator of the loop from the block's first row that passes the test, `n` trips at most. -/
def loopAcc (x : Vec F S2048x1000 .f32) (y : Vec F S1x2048x1 .i32) (n : ℕ) : FVec F S3x16 .f32 :=
  (loopRes x y (k0_pay2 x) n (startR (k0_pay2 x)) k0_pay4).2

/-- What a block adds to the accumulator: the loop from the block's first hot row and zeros. -/
def blockAcc (x : Vec F S2048x1000 .f32) (y : Vec F S1x2048x1 .i32) : FVec F S3x16 .f32 := loopAcc x y 2048

/-- The start is within the block. -/
theorem startR_le (hot : IVec S2048x1 1) : (startR hot).toNat ≤ 2048 := ((le_startR hot _).mp le_rfl).1

/-- The body's branch conditions, from the grid coordinates. -/
abbrev isFirst (i : grid0.Coords) : Prop := (Scalar.cmpi .ne (Scalar.extui (Scalar.cmpi .eq (BitVec.ofNat 32 (i 0).val) 0#32)) 0#32) = 1#1
/-- Whether a grid step is the last. -/
abbrev isLast (i : grid0.Coords) : Prop := k0_cond2 i = 1#1

/-- The kernel's own call of the label, answered by the specification. -/
theorem enter (c : Dev nD) (arg1 : Memref sig .tc .vmem S2048x1000 .f32) (harg1 : arg1.IsWhole)
    (arg2 : Memref sig .tc .vmem S1x2048x1 .i32) (harg2 : arg2.IsWhole) (i : grid0.Coords) (x : Vec F S2048x1000 .f32)
    (y : Vec F S1x2048x1 .i32) (hot : IVec S2048x1 1) (r : BitVec 32) (hr : r.toNat ≤ 2048) (acc : FVec F S3x16 .f32)
    (E : Set ℕ) (k : BitVec 32 × FVec F S3x16 .f32 → Prog (TpuEff nD τ sig (Elt F) (Λ₀ F) .tc) PUnit) (K : PUnit → sProp 𝕄) :
    spec c arg1 arg2 x y hot 2048 r acc (fun z => wp frame (wpE (defs₀ (F := F)) 𝒱₀ (c : Thread nD τ) none) E (k z) K)
      ⊢ wp frame (wpE (defs₀ (F := F)) 𝒱₀ (c : Thread nD τ) none) E
            (.op (.call (1 : (Λ₀ F).Label) ⟨i, arg1, harg1, arg2, harg2, hot, r, acc⟩) k) K :=
  wp_call_spec (Λ := Λ₀ F) (defs := defs₀ (F := F)) (ℓ := 1) (a := ⟨i, arg1, harg1, arg2, harg2, hot, r, acc⟩) (k := k) (Q := K)
    𝒱₀ (c : Thread nD τ) none E (spec c arg1 arg2 x y hot 2048 r acc) 2048 (fun u hu => nomatch hu)
    (fun K => spec_le c arg1 harg1 arg2 harg2 i x y hot E 2048 r acc K hr (by omega))

/-- Two zero offsets, however spelt. -/
theorem zero2 : (![0, 0] : Fin 2 → ℕ) = fun _ => 0 := funext fun a => by fin_cases a <;> rfl

/-- A buffer whose last store was the whole of it reads that store. -/
theorem read_store {S : Shape} {e : EltTy} (v : View sig .tc .vmem S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ fun y => ⟨_, List.mem_cons_self, View.mem_set_unit_zero h inb y⟩]
  exact View.canon_cons_unit_zero h inb w L

/-- A load of the whole accumulator reads what it holds. -/
theorem read_whole (m : Memref sig .tc .vmem S3x16 .f32) (hm : m.IsWhole) (a : Vec F S3x16 .f32) :
    View.readAt (Elt F) m.view (Rect.unit (s := S3x16) ![0, 0] S3x16.size inb_S3x16_S3x16_0_0).toLoadRect (hm.unread a) = a := by
  rw [View.readAt_eq_ld, hm.read_unread]; exact View.ld_unit_zero zero2 _ _

section Runs

variable (c : Dev nD) (i : grid0.Coords) (arg1 : Memref sig .tc .vmem S2048x1000 .f32) (harg1 : arg1.IsWhole)
  (arg2 : Memref sig .tc .vmem S1x2048x1 .i32) (harg2 : arg2.IsWhole) (arg3 : Memref sig .tc .vmem S1x1 .f32) (harg3 : arg3.IsWhole)
  (arg4 : Memref sig .tc .vmem S3x16 .f32) (harg4 : arg4.IsWhole) (x : Vec F S2048x1000 .f32) (y : Vec F S1x2048x1 .i32)

set_option maxHeartbeats 1000000 in
/-- At the first point: the accumulator, whatever it held, ends as zeros and the block's sums. -/
theorem body_first (h1 : isFirst i) (h2 : ¬ isLast i) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ (∃ d, owns (c : Thread nD τ) arg4 fullShare d)
        ∗ (iprop(owns (c : Thread nD τ) arg1 fullShare x ∗ owns (c : Thread nD τ) arg2 fullShare y ∗ owns (c : Thread nD τ) arg3 fullShare o
            ∗ owns (c : Thread nD τ) arg4 fullShare (k0_pay5 (blockAcc x y) k0_pay1)) -∗ K ⟨⟩))
      ⊢ wp frame (wpE (defs₀ (F := F)) 𝒱₀ c none) E (cc0__ace_kernel i arg1 harg1 arg2 harg2 arg3 harg3 arg4 harg4) K := by
  simp only [cc0__ace_kernel_eq_skeleton]; unfold cc0__ace_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | sl_exact h1 | sl_exact h2)
  have ex : View.readAt (Elt F) arg1.view (Rect.unit ![0, 0] S2048x1000.size inb_S2048x1000_S2048x1000_0_0).toLoadRect (harg1.unread x) = x := by
    rw [View.readAt_eq_ld, harg1.read_unread]; exact View.ld_unit_zero zero2 _ _
  rw [show body_first.sl.v19 c arg1 harg1 x = startR (k0_pay2 x) from by
    unfold body_first.sl.v19; rw [ex]; rfl, ex]
  iapply (enter c arg1 harg1 arg2 harg2 i x y (k0_pay2 x) (startR (k0_pay2 x)) (startR_le _) k0_pay4 E _ K)
  rw [spec_apply]
  isplitl [H1 H2]
  · unfold owns
    isplitl [H1]
    · iexists _; isplitr; · ipureintro; exact hf1
      iexact H1
    iexists _; isplitr; · ipureintro; exact hf2
    iexact H2
  unfold owns
  iintro ⟨⟨%g1, %hg1, H1⟩, ⟨%g2, %hg2, H2⟩⟩
  rw [show loopRes x y (k0_pay2 x) 2048 (startR (k0_pay2 x)) k0_pay4
    = ((loopRes x y (k0_pay2 x) 2048 (startR (k0_pay2 x)) k0_pay4).1, blockAcc x y) from rfl]
  generalize (loopRes x y (k0_pay2 x) 2048 (startR (k0_pay2 x)) k0_pay4).1 = rr
  generalize blockAcc x y = A
  dsimp only
  sl_exec (disch := first | sl_exact h1 | sl_exact h2)
  sl_step
  iapply Hk
  isplitl [H1]
  · iexists _; isplitr; · ipureintro; exact hg1
    iexact H1
  isplitl [H2]
  · iexists _; isplitr; · ipureintro; exact hg2
    iexact H2
  isplitl [H3]
  · iexists _; isplitr; · ipureintro; exact hf3
    iexact H3
  iexists _; isplitr
  swap; · iexact H4
  ipureintro
  unfold body_first.sl.v22
  refine (read_store arg4.view zero2 _ _ _ _).trans (congrArg (k0_pay5 A) ?_)
  exact View.readCov_unit_zero _ zero2 _ _

set_option maxHeartbeats 1000000 in
/-- At a middle point: the accumulator gains the block's sums. -/
theorem body_mid (h1 : ¬ isFirst i) (h2 : ¬ isLast i) (o : Vec F S1x1 .f32) (a : Vec F S3x16 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a
        ∗ (iprop(owns (c : Thread nD τ) arg1 fullShare x ∗ owns (c : Thread nD τ) arg2 fullShare y ∗ owns (c : Thread nD τ) arg3 fullShare o
            ∗ owns (c : Thread nD τ) arg4 fullShare (k0_pay5 (blockAcc x y) a)) -∗ K ⟨⟩))
      ⊢ wp frame (wpE (defs₀ (F := F)) 𝒱₀ c none) E (cc0__ace_kernel i arg1 harg1 arg2 harg2 arg3 harg3 arg4 harg4) K := by
  simp only [cc0__ace_kernel_eq_skeleton]; unfold cc0__ace_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | sl_exact h1 | sl_exact h2)
  have ex : View.readAt (Elt F) arg1.view (Rect.unit ![0, 0] S2048x1000.size inb_S2048x1000_S2048x1000_0_0).toLoadRect (harg1.unread x) = x := by
    rw [View.readAt_eq_ld, harg1.read_unread]; exact View.ld_unit_zero zero2 _ _
  rw [show body_mid.sl.v19 c arg1 harg1 x = startR (k0_pay2 x) from by
    unfold body_mid.sl.v19; rw [ex]; rfl, ex]
  iapply (enter c arg1 harg1 arg2 harg2 i x y (k0_pay2 x) (startR (k0_pay2 x)) (startR_le _) k0_pay4 E _ K)
  rw [spec_apply]
  isplitl [H1 H2]
  · unfold owns
    isplitl [H1]
    · iexists _; isplitr; · ipureintro; exact hf1
      iexact H1
    iexists _; isplitr; · ipureintro; exact hf2
    iexact H2
  unfold owns
  iintro ⟨⟨%g1, %hg1, H1⟩, ⟨%g2, %hg2, H2⟩⟩
  rw [show loopRes x y (k0_pay2 x) 2048 (startR (k0_pay2 x)) k0_pay4
    = ((loopRes x y (k0_pay2 x) 2048 (startR (k0_pay2 x)) k0_pay4).1, blockAcc x y) from rfl]
  generalize (loopRes x y (k0_pay2 x) 2048 (startR (k0_pay2 x)) k0_pay4).1 = rr
  generalize blockAcc x y = A
  dsimp only
  sl_exec (disch := first | sl_exact h1 | sl_exact h2)
  sl_step
  iapply Hk
  isplitl [H1]
  · iexists _; isplitr; · ipureintro; exact hg1
    iexact H1
  isplitl [H2]
  · iexists _; isplitr; · ipureintro; exact hg2
    iexact H2
  isplitl [H3]
  · iexists _; isplitr; · ipureintro; exact hf3
    iexact H3
  iexists _; isplitr
  swap; · iexact H4
  ipureintro
  refine (read_store arg4.view zero2 _ _ _ _).trans (congrArg (k0_pay5 A) ?_)
  exact read_whole arg4 harg4 a

set_option maxHeartbeats 1000000 in
/-- At the last point: the accumulator gains the block's sums, and the result is computed from it. -/
theorem body_last (h1 : ¬ isFirst i) (h2 : isLast i) (a : Vec F S3x16 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ owns (c : Thread nD τ) arg4 fullShare a
        ∗ (iprop(owns (c : Thread nD τ) arg1 fullShare x ∗ owns (c : Thread nD τ) arg2 fullShare y
            ∗ owns (c : Thread nD τ) arg3 fullShare (k0_pay6 (k0_pay5 (blockAcc x y) a))
            ∗ owns (c : Thread nD τ) arg4 fullShare (k0_pay5 (blockAcc x y) a)) -∗ K ⟨⟩))
      ⊢ wp frame (wpE (defs₀ (F := F)) 𝒱₀ c none) E (cc0__ace_kernel i arg1 harg1 arg2 harg2 arg3 harg3 arg4 harg4) K := by
  simp only [cc0__ace_kernel_eq_skeleton]; unfold cc0__ace_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | sl_exact h1 | sl_exact h2)
  have ex : View.readAt (Elt F) arg1.view (Rect.unit ![0, 0] S2048x1000.size inb_S2048x1000_S2048x1000_0_0).toLoadRect (harg1.unread x) = x := by
    rw [View.readAt_eq_ld, harg1.read_unread]; exact View.ld_unit_zero zero2 _ _
  rw [show body_last.sl.v19 c arg1 harg1 x = startR (k0_pay2 x) from by
    unfold body_last.sl.v19; rw [ex]; rfl, ex]
  iapply (enter c arg1 harg1 arg2 harg2 i x y (k0_pay2 x) (startR (k0_pay2 x)) (startR_le _) k0_pay4 E _ K)
  rw [spec_apply]
  isplitl [H1 H2]
  · unfold owns
    isplitl [H1]
    · iexists _; isplitr; · ipureintro; exact hf1
      iexact H1
    iexists _; isplitr; · ipureintro; exact hf2
    iexact H2
  unfold owns
  iintro ⟨⟨%g1, %hg1, H1⟩, ⟨%g2, %hg2, H2⟩⟩
  rw [show loopRes x y (k0_pay2 x) 2048 (startR (k0_pay2 x)) k0_pay4
    = ((loopRes x y (k0_pay2 x) 2048 (startR (k0_pay2 x)) k0_pay4).1, blockAcc x y) from rfl]
  generalize (loopRes x y (k0_pay2 x) 2048 (startR (k0_pay2 x)) k0_pay4).1 = rr
  generalize blockAcc x y = A
  dsimp only
  sl_exec (disch := first | sl_exact h1 | sl_exact h2)
  sl_step
  iapply Hk
  isplitl [H1]
  · iexists _; isplitr; · ipureintro; exact hg1
    iexact H1
  isplitl [H2]
  · iexists _; isplitr; · ipureintro; exact hg2
    iexact H2
  isplitl [H3]
  · iexists _; isplitr
    swap; · iexact H3
    ipureintro
    unfold body_last.sl.v30
    refine (read_store arg3.view zero2 _ _ _ _).trans (congrArg k0_pay6 ?_)
    unfold body_last.sl.H4_1
    refine (View.readCov_unit_zero _ zero2 _ _).trans (congrArg (k0_pay5 A) ?_)
    exact read_whole arg4 harg4 a
  iexists _; isplitr
  swap; · iexact H4
  ipureintro
  unfold body_last.sl.H4_1
  refine (read_store arg4.view zero2 _ _ _ _).trans (congrArg (k0_pay5 A) ?_)
  exact read_whole arg4 harg4 a

end Runs

end Cert.KernelIdeal.Hand

end
-- ==== Proof.KI.Run.lean ====
/-
  The launch: what the accumulator holds after each grid point, the pipeline's proof data, the body's obligation at
  every point, and the run — the arguments end unchanged, the result is what the last point computes.
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: the launch memory after the host's reshape of the labels. -/
abbrev V (c : Dev nD) (b : Ref sig .tc) : Buf (Elt F) ((c : Thread nD τ).loc b) := StableHlo.after hostOps0 (fun b => m (c, b)) b

/-- The operation before the launch allocates nothing. -/
theorem hostOps0_fresh : (hostOps0 : List (HloOp τ sig (Elt F))).Forall fun op => op.fresh = ∅ := by
  simp only [List.Forall]; repeat' constructor

set_option maxHeartbeats 800000 in
/-- The program is that reshape, then the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
/-- The labels as the launch finds them. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))

/-- Window `w`'s block at point `t`, of its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## Which branch a point takes, and where the result is written -/

/-- The first branch is the first point's. -/
theorem isFirst_iff : ∀ t : Fin (cfg0 (F := F)).N, isFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val % 8 = 0)

/-- The second branch is the last point's. -/
theorem isLast_iff : ∀ t : Fin (cfg0 (F := F)).N, isLast (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [isLast, k0_cond2, e0]
    word_cmp
   : ∀ t : Fin grid0.N, isLast (grid0.coords t) ↔ t.val % 8 = 7)

/-- Before the last point the result's window is idle and not written back; at the last it is live. -/
theorem idle_of : ∀ t : Fin grid0.N, ¬ isLast (grid0.coords t) → idle0 2 (grid0.coords t) = true := by decide +kernel
/-- The result is written back at the last step only. -/
theorem noFlush_of : ∀ t : Fin grid0.N, ¬ isLast (grid0.coords t) → win0_2.flush t = false := by decide +kernel
/-- The result's window is written at the last step. -/
theorem live_of : ∀ t : Fin grid0.N, isLast (grid0.coords t) → idle0 2 (grid0.coords t) = false := by decide +kernel
/-- The logits' window is live throughout. -/
theorem live0 : ∀ t : Fin (cfg0 (F := F)).N, (cfg0 (F := F)).idle 0 (grid0.coords t) = false := fun _ => rfl
/-- The labels' window is live throughout. -/
theorem live1 : ∀ t : Fin (cfg0 (F := F)).N, (cfg0 (F := F)).idle 1 (grid0.coords t) = false := fun _ => rfl

/-! ## The proof data -/

/-- The windows' staging buffers at point `t`, and the accumulator's. -/
abbrev ms0 (t : Fin (cfg0 (F := F)).N) : Memref sig .tc .vmem S2048x1000 .f32 := win0_0.stage ((cfg0 (F := F)).slots t 0)
/-- The labels' staging buffer. -/
abbrev ms1 (t : Fin (cfg0 (F := F)).N) : Memref sig .tc .vmem S1x2048x1 .i32 := win0_1.stage ((cfg0 (F := F)).slots t 1)
/-- The result's staging buffer. -/
abbrev ms2 (t : Fin (cfg0 (F := F)).N) : Memref sig .tc .vmem S1x1 .f32 := win0_2.stage ((cfg0 (F := F)).slots t 2)
/-- The accumulator. -/
abbrev mAcc : Memref sig .tc .vmem S3x16 .f32 := Memref.whole cc0_scratch0

/-- The accumulator after point `n`: the blocks' sums added in order. -/
def accAt (c : Dev nD) : (n : ℕ) → n < (cfg0 (F := F)).N → Vec F S3x16 .f32
  | 0, h => k0_pay5 (blockAcc (iblk m c 0 ⟨0, h⟩) (iblk m c 1 ⟨0, h⟩)) k0_pay1
  | n + 1, h => k0_pay5 (blockAcc (iblk m c 0 ⟨n + 1, h⟩) (iblk m c 1 ⟨n + 1, h⟩)) (accAt c n (Nat.lt_of_succ_lt h))

/-- The accumulator after the first step. -/
theorem accAt_zero (c : Dev nD) (t : Fin (cfg0 (F := F)).N) (h : t.val = 0) :
    accAt m c t.val t.isLt = k0_pay5 (blockAcc (iblk m c 0 t) (iblk m c 1 t)) k0_pay1 := by
  obtain ⟨n, hn⟩ := t; obtain rfl : n = 0 := h; rfl

/-- The accumulator after a later step. -/
theorem accAt_pos (c : Dev nD) (t : Fin (cfg0 (F := F)).N) (h : t.val ≠ 0) :
    accAt m c t.val t.isLt
      = k0_pay5 (blockAcc (iblk m c 0 t) (iblk m c 1 t)) (accAt m c (t.val - 1) (Nat.lt_of_le_of_lt (Nat.sub_le _ _) t.isLt)) := by
  obtain ⟨n, hn⟩ := t
  cases n with
  | zero => exact absurd rfl h
  | succ n => rfl

/-- What the body keeps between points: the accumulator — anything before the first, then `accAt` — and the generator. -/
def keep (c : Dev nD) : (n : ℕ) → n ≤ (cfg0 (F := F)).N → sProp 𝕄
  | 0, _ => Pipeline.ΦA spec0 c
  | n + 1, h => iprop(owns (c : Thread nD τ) mAcc fullShare (accAt m c n h) ∗ (∃ r, prngReg c r))

/-- What is kept before the first step. -/
theorem keep_zero (c : Dev nD) (n : ℕ) (h : n ≤ (cfg0 (F := F)).N) (hz : n = 0) :
    keep m c n h = iprop((∃ d, owns (c : Thread nD τ) mAcc fullShare d) ∗ (∃ r, prngReg c r)) := by
  subst hz
  show Pipeline.ΦA spec0 c = _
  unfold Pipeline.ΦA; rw [scopedRest0_eq]; simp only [mAcc, owns_whole]; try rfl

/-- What is kept after a step. -/
theorem keep_succ (c : Dev nD) (n : ℕ) (hn : n < (cfg0 (F := F)).N) :
    keep m c (n + 1) hn = iprop(owns (c : Thread nD τ) mAcc fullShare (accAt m c n hn) ∗ (∃ r, prngReg c r)) := rfl

/-- What is kept before a later step. -/
theorem keep_pos (c : Dev nD) (n : ℕ) (h : n ≤ (cfg0 (F := F)).N) (hz : n ≠ 0) :
    keep m c n h = iprop(owns (c : Thread nD τ) mAcc fullShare (accAt m c (n - 1) (by omega)) ∗ (∃ r, prngReg c r)) := by
  cases n with
  | zero => exact absurd rfl hz
  | succ n => rfl

/-- The proof data: the arrays as the region finds them, each input's buffer left at its block, the result's at the
    result computed from the accumulator, nothing owed, full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => k0_pay6 (accAt m c t.val t.isLt)
  Φ t := keep m c t.val (Nat.le_of_lt_succ t.isLt)
  q _ := fullShare
  owed _ := 0

/-- The arrays the launch finds. -/
theorem A_eq (c : Dev nD) (w : Fin (cfg0 (F := F)).W) : (dats m 0 c).A w = V m c (Pipeline.arrRef spec0 w) := by
  dsimp only [dats]
/-- What is kept before a step. -/
theorem Φ_castSucc (c : Dev nD) (t : Fin (cfg0 (F := F)).N) : (dats m 0 c).Φ t.castSucc = keep m c t.val (Nat.le_of_lt t.isLt) := by
  dsimp only [dats]; exact Pipeline.Dat.Φ_castSucc (keep m c) t
/-- The logits' block is left as it was. -/
theorem after0 (c : Dev nD) (t : Fin (cfg0 (F := F)).N) : (dats m 0 c).after 0 t = iblk m c 0 t := by dsimp only [dats]; rfl
/-- The labels' block is left as it was. -/
theorem after1 (c : Dev nD) (t : Fin (cfg0 (F := F)).N) : (dats m 0 c).after 1 t = iblk m c 1 t := by dsimp only [dats]; rfl
/-- The result's block after a step. -/
theorem after2 (c : Dev nD) (t : Fin (cfg0 (F := F)).N) : (dats m 0 c).after 2 t = k0_pay6 (accAt m c t.val t.isLt) := by dsimp only [dats]; rfl

/-- An input's buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- The labels' block before a step. -/
theorem before1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body at a point -/

/-- What the body is given at point `t` and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
/-- What one step leaves. -/
def bodyPost (c : Dev nD) (t : Fin (cfg0 (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4800000 in
/-- The body meets it at every point: the branch the point takes is one of three. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = keep m c (t.val + 1) t.isLt from rfl, keep_succ, Φ_castSucc]
  have hN : t.val < 8 := lt_of_lt_of_eq t.isLt (show (cfg0 (F := F)).N = 8 from N_0)
  rw [show (dats m 0 c).leavesExact 0 t = owns (c : Thread nD τ) (ms0 t) fullShare ((dats m 0 c).after 0 t) from by
    unfold Dat.leavesExact; rw [live0 t]; rfl, after0]
  rw [show (dats m 0 c).leavesExact 1 t = owns (c : Thread nD τ) (ms1 t) fullShare ((dats m 0 c).after 1 t) from by
    unfold Dat.leavesExact; rw [live1 t]; rfl, after1]
  by_cases hz : t.val = 0
  · have h1 : isFirst (grid0.coords t) := (isFirst_iff t).mpr (by omega)
    have h2 : ¬ isLast (grid0.coords t) := fun h => by have := (isLast_iff t).mp h; omega
    rw [Dat.leavesExact_idle (dats m 0 c) 2 t (idle_of t h2) (noFlush_of t h2), keep_zero m c _ _ hz, accAt_zero m c t hz]
    iintro ⟨⟨HS, Hg⟩, Ho, ⟨%d0, H0⟩, ⟨%d1, H1⟩, ⟨%d2, H2⟩⟩
    iapply (body_first c (grid0.coords t) _ _ _ _ _ _ _ _ (iblk m c 0 t) (iblk m c 1 t) h1 h2 _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have h1 : ¬ isFirst (grid0.coords t) := fun h => by have := (isFirst_iff t).mp h; omega
    rw [keep_pos m c _ _ hz, accAt_pos m c t hz]
    by_cases hl : t.val = 7
    · have h2 : isLast (grid0.coords t) := (isLast_iff t).mpr (by omega)
      rw [show (dats m 0 c).leavesExact 2 t = owns (c : Thread nD τ) (ms2 t) fullShare ((dats m 0 c).after 2 t) from by
        unfold Dat.leavesExact; rw [show (cfg0 (F := F)).idle 2 ((cfg0 (F := F)).grid.coords t) = false from live_of t h2]; rfl, after2, accAt_pos m c t hz]
      iintro ⟨⟨HS, Hg⟩, Ho, ⟨%d0, H0⟩, ⟨%d1, H1⟩, ⟨%d2, H2⟩⟩
      iapply (body_last c (grid0.coords t) _ _ _ _ _ _ _ _ (iblk m c 0 t) (iblk m c 1 t) h1 h2 _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have h2 : ¬ isLast (grid0.coords t) := fun h => by have := (isLast_iff t).mp h; omega
      rw [Dat.leavesExact_idle (dats m 0 c) 2 t (idle_of t h2) (noFlush_of t h2)]
      iintro ⟨⟨HS, Hg⟩, Ho, ⟨%d0, H0⟩, ⟨%d1, H1⟩, ⟨%d2, H2⟩⟩
      iapply (body_mid c (grid0.coords t) _ _ _ _ _ _ _ _ (iblk m c 0 t) (iblk m c 1 t) h1 h2 _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The body table's row at a point is that point's body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- So the body's obligation is met. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- What the launch hands the region is what the first point keeps, and what the last keeps is given back. -/
theorem hin (c : Dev nD) : Pipeline.ΦA spec0 c ⊢ (dats m 0 c).Φ 0 :=
  Idealize.SL.BI.Entails.refl _
/-- What is kept at the end gives back the scratch buffers. -/
theorem hout (c : Dev nD) : (dats m 0 c).Φ (Fin.last (cfg0 (F := F)).N) ⊢ Pipeline.ΦA spec0 c := by
  rw [show (dats m 0 c).Φ (Fin.last (cfg0 (F := F)).N) = keep m c (Fin.last (cfg0 (F := F)).N).val (Nat.le_of_lt_succ (Fin.last (cfg0 (F := F)).N).isLt) from rfl,
    keep_pos m c _ _ (by rw [Fin.val_last]; have : (cfg0 (F := F)).N = 8 := N_0; omega),
    show (Pipeline.ΦA spec0 c : sProp 𝕄) = keep m c 0 (Nat.zero_le _) from rfl, keep_zero m c 0 _ rfl]
  iintro ⟨HS, Hg⟩
  isplitl [HS]
  · iexists _; iexact HS
  iexact Hg

/-! ## The run -/

set_option backward.isDefEq.respectTransparency.types false in
/-- The launch: every execution ends, with every staged array at what the proof data computes, every other buffer as
    the region found it, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hin := hin m) (hout := hout m)

/-- The run read at the arguments and the result. -/
theorem run_result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = (dats m 0 c).arrAt 2 (Fin.last (cfg0 (F := F)).N))
      ∧ r.2.sem = fun _ => 0) :=
  (θ_run defs _ _).mono (fun _ h => ⟨fun c =>
    ⟨((h.1 c).1 0).trans (((dats m 0 c).arrAt_in 0 rfl _).trans ((A_eq m c 0).trans (V_arg0 m c))),
      ((h.1 c).2 main_arg1 (Pipeline.mem_restRefs_of main_arg1 (by decide) (by decide : ∀ w : Fin 3, (spec0 w).arr.view.ref ≠ main_arg1))).trans (V_arg1 m c),
      (h.1 c).1 2⟩, h.2⟩) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_result m ρ)

end Cert.KernelIdeal.Hand

end
-- ==== Proof.Spec.Ece.lean ====
/-
  The mathematics both programs compute, over the reals: the sums over the entries above a bound, the sums over the
  entries in a bin, and the calibration error from the latter.
-/
module

public import Mathlib.Data.Fin.VecNotation
public import Mathlib.Data.Real.Basic
public import Mathlib.Algebra.BigOperators.Fin
public import Mathlib.Algebra.Order.BigOperators.Group.Finset
public import Mathlib.Tactic.NormNum
public import Mathlib.Tactic.FinCases
public import Mathlib.Tactic.Linarith

@[expose] public section

noncomputable section

namespace Cert.Ece

open Finset

/-- The sixteen boundaries: 0, the f32 values of `linspace(0, 1, 16)`, 1. -/
def tb : Fin 16 → ℝ :=
  ![0, 8947849 / 2 ^ 27, 8947849 / 2 ^ 26, 13421774 / 2 ^ 26, 8947849 / 2 ^ 25, 11184811 / 2 ^ 25, 13421774 / 2 ^ 25,
    15658736 / 2 ^ 25, 8947849 / 2 ^ 24, 10066330 / 2 ^ 24, 11184811 / 2 ^ 24, 12303292 / 2 ^ 24, 13421774 / 2 ^ 24,
    14540255 / 2 ^ 24, 15658736 / 2 ^ 24, 1]

/-- The boundaries increase. -/
theorem tb_le (i : Fin 15) : tb i.castSucc ≤ tb i.succ := by
  fin_cases i <;> norm_num [tb, Fin.succ, Fin.castSucc, Fin.castAdd, Fin.castLE]

/-- Every boundary but the first is at least the second. -/
theorem tb_one_le (i : Fin 16) (h : i ≠ 0) : (8947849 / 2 ^ 27 : ℝ) ≤ tb i := by
  fin_cases i <;> first | exact absurd rfl h | norm_num [tb]

/-- The first boundary is 0. -/
theorem tb_zero : tb 0 = 0 := rfl
/-- The last boundary is 1. -/
theorem tb_last : tb 15 = 1 := rfl

/-- An entry's weight in the three sums: 1 (the count), the entry (the confidence), 1 at the label (the accuracy). -/
def wt (p : Fin 1000 → ℝ) (l : Fin 1000) (j : Fin 3) (c : Fin 1000) : ℝ :=
  match j with
  | 0 => 1
  | 1 => p c
  | 2 => if c = l then 1 else 0

/-- A row's sum over the entries above `t`. -/
def over (p : Fin 1000 → ℝ) (l : Fin 1000) (j : Fin 3) (t : ℝ) : ℝ := ∑ c, if t < p c then wt p l j c else 0

/-- A row's sum over the entries in a bin. -/
def within (p : Fin 1000 → ℝ) (l : Fin 1000) (j : Fin 3) (t u : ℝ) : ℝ := ∑ c, if t < p c ∧ p c ≤ u then wt p l j c else 0

/-- What lies above one boundary less what lies above a higher one lies between the two. -/
theorem over_sub (p : Fin 1000 → ℝ) (l : Fin 1000) (j : Fin 3) {t u : ℝ} (h : t ≤ u) :
    over p l j t - over p l j u = within p l j t u := by
  unfold over within
  rw [← Finset.sum_sub_distrib]
  refine Finset.sum_congr rfl fun c _ => ?_
  by_cases h1 : t < p c
  · by_cases h2 : u < p c
    · rw [if_pos h1, if_pos h2, if_neg (fun h => absurd h.2 (not_le.mpr h2)), sub_self]
    · rw [if_pos h1, if_neg h2, if_pos ⟨h1, not_lt.mp h2⟩, sub_zero]
  · rw [if_neg h1, if_neg (fun h2 => h1 (lt_of_le_of_lt h h2)), if_neg (fun h => h1 h.1), sub_zero]

/-- What the kernel adds for a row: nothing in the first and last columns, the sum above the column's bound elsewhere. -/
def stat (p : Fin 1000 → ℝ) (l : Fin 1000) (j : Fin 3) (i : Fin 16) : ℝ :=
  if i = 0 ∨ i = 15 then 0 else over p l j (tb i)

/-- A row none of whose entries exceeds the second boundary adds nothing. -/
theorem stat_eq_zero (p : Fin 1000 → ℝ) (l : Fin 1000) (h : ∀ c, p c ≤ 8947849 / 2 ^ 27) (j : Fin 3) (i : Fin 16) :
    stat p l j i = 0 := by
  unfold stat
  split
  · rfl
  · rename_i hi
    unfold over
    refine Finset.sum_eq_zero fun c _ => if_neg ?_
    exact not_lt.mpr ((h c).trans (tb_one_le i fun e => hi (.inl e)))

/-- The whole arrays' sums, which the kernel has as constants. -/
def head (j : Fin 3) : ℝ :=
  match j with
  | 0 => 16384000
  | 1 => 16384
  | 2 => 16384

variable (P : Fin 16384 → Fin 1000 → ℝ) (L : Fin 16384 → Fin 1000)

/-- The kernel's list of sums: the constant, then the columns. -/
def tails (j : Fin 3) (i : Fin 16) : ℝ := if i = 0 then head j else ∑ r, stat (P r) (L r) j i

/-- The sums over a bin. -/
def bin (j : Fin 3) (i : Fin 15) : ℝ := ∑ r, within (P r) (L r) j (tb i.castSucc) (tb i.succ)

/-- Each listed sum is the sum above its boundary over all rows. -/
theorem tails_eq (h0 : ∀ r c, 0 < P r c) (h1 : ∀ r c, P r c ≤ 1) (hs : ∀ r, ∑ c, P r c = 1) (j : Fin 3) (i : Fin 16) :
    tails P L j i = ∑ r, over (P r) (L r) j (tb i) := by
  unfold tails
  split
  · rename_i hi; subst hi
    have e : ∀ r, over (P r) (L r) j (tb 0) = ∑ c, wt (P r) (L r) j c := fun r =>
      Finset.sum_congr rfl fun c _ => if_pos (by rw [tb_zero]; exact h0 r c)
    simp only [e]
    match j with
    | 0 => simp only [wt, head, Finset.sum_const, Finset.card_univ, Fintype.card_fin]; norm_num
    | 1 => simp only [wt, head, hs, Finset.sum_const, Finset.card_univ, Fintype.card_fin]; norm_num
    | 2 => simp only [wt, head, Finset.sum_ite_eq', Finset.mem_univ, if_true, Finset.sum_const, Finset.card_univ, Fintype.card_fin]; norm_num
  · rename_i hi
    refine Finset.sum_congr rfl fun r _ => ?_
    unfold stat
    split
    · rename_i h
      rcases h with h | h
      · exact absurd h hi
      · subst h
        exact (Finset.sum_eq_zero fun c _ => if_neg (not_lt.mpr (by rw [tb_last]; exact h1 r c))).symm
    · rfl

/-- Neighbouring sums differ by the bin's. -/
theorem tails_sub (h0 : ∀ r c, 0 < P r c) (h1 : ∀ r c, P r c ≤ 1) (hs : ∀ r, ∑ c, P r c = 1) (j : Fin 3) (i : Fin 15) :
    tails P L j i.castSucc - tails P L j i.succ = bin P L j i := by
  rw [tails_eq P L h0 h1 hs, tails_eq P L h0 h1 hs, ← Finset.sum_sub_distrib]
  exact Finset.sum_congr rfl fun r _ => over_sub _ _ _ (tb_le i)

/-- A bin's contribution from its three sums. -/
def term (n s a : ℝ) : ℝ := if 0 < n then |s / max n 1 - a / max n 1| * (n / 16384000) else 0

/-- The calibration error. -/
def ece : ℝ := ∑ i : Fin 15, term (bin P L 0 i) (bin P L 1 i) (bin P L 2 i)

end Cert.Ece

end
-- ==== Proof.Spec.Row.lean ====
/-
  A row's softmax in the extended reals, as both programs compute it, and what it is at finite logits: positive reals
  that sum to one, none above the reciprocal of the row's sum.
-/
module

public import proofs.«01_k».proof.Proof.Spec.Ece
public import Idealize.ShloMosaic.PureOps.Ideal
public import Idealize.ShloMosaic.PureOps.Ideal.Laws

@[expose] public section

noncomputable section

namespace Cert.Ece

open Idealize.ShloMosaic

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor nonzero, is their real quotient. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

variable (z : Fin 1000 → EReal)

/-- A row's maximum. -/
def rowMax : EReal := Finset.univ.fold max ⊥ z
/-- A row's exponential, less its maximum. -/
def rowExp (c : Fin 1000) : EReal := Ideal.exp (z c - rowMax z)
/-- The sum of a row's exponentials. -/
def rowSum : EReal := ∑ c, rowExp z c
/-- A row's softmax. -/
def rowProb (c : Fin 1000) : EReal := Ideal.div (rowExp z c) (rowSum z)

/-- The row's probabilities as reals. -/
def pr (c : Fin 1000) : ℝ := (rowProb z c).toReal

/-- A row of real logits. -/
def FinRow : Prop := ∀ c, z c ≠ ⊥ ∧ z c ≠ ⊤

variable {z}

/-- The row's exponentials are reals in (0, 1], one of them 1. -/
theorem exp_real (h : FinRow z) : ∃ e : Fin 1000 → ℝ, (∀ c, rowExp z c = (e c : EReal)) ∧ (∀ c, 0 < e c) ∧ (∀ c, e c ≤ 1)
    ∧ ∃ c, e c = 1 := by
  have hm : ∃ c0, rowMax z = z c0 := by
    have : rowMax z = Finset.univ.sup z := rfl
    rw [this]
    obtain ⟨c0, _, h0⟩ := Finset.exists_mem_eq_sup Finset.univ ⟨0, Finset.mem_univ _⟩ z
    exact ⟨c0, h0⟩
  obtain ⟨c0, h0⟩ := hm
  have hy : ∀ c, z c = (((z c).toReal : ℝ) : EReal) := fun c => (EReal.coe_toReal (h c).2 (h c).1).symm
  have hle : ∀ c, (z c).toReal ≤ (z c0).toReal := fun c => by
    have : z c ≤ z c0 := by
      rw [← h0]
      exact Finset.le_sup (f := z) (Finset.mem_univ c)
    rw [hy c, hy c0] at this
    exact EReal.coe_le_coe_iff.mp this
  refine ⟨fun c => Real.exp ((z c).toReal - (z c0).toReal), fun c => ?_, fun c => Real.exp_pos _, fun c => ?_, c0, ?_⟩
  · unfold rowExp
    rw [h0, hy c, hy c0, ← EReal.coe_sub]
    rfl
  · exact Real.exp_le_one_iff.mpr (sub_nonpos.mpr (hle c))
  · simp

/-- The row's sum is a real at least 1, and each probability is its exponential over it. -/
theorem row_real (h : FinRow z) : ∃ (e : Fin 1000 → ℝ) (s : ℝ), rowSum z = (s : EReal) ∧ 1 ≤ s ∧ s = ∑ c, e c
    ∧ (∀ c, 0 < e c) ∧ (∀ c, e c ≤ 1) ∧ ∀ c, rowProb z c = ((e c / s : ℝ) : EReal) := by
  obtain ⟨e, he, h0, h1, c0, hc⟩ := exp_real h
  have hs : rowSum z = ((∑ c, e c : ℝ) : EReal) := by
    rw [coe_sum]; exact Finset.sum_congr rfl fun c _ => he c
  have h1s : 1 ≤ ∑ c, e c := by
    rw [← hc]; exact Finset.single_le_sum (fun c _ => (h0 c).le) (Finset.mem_univ c0)
  refine ⟨e, _, hs, h1s, rfl, h0, h1, fun c => ?_⟩
  unfold rowProb
  rw [hs, he, div_coe _ _ (by linarith)]

/-- A finite row's softmax is a real number. -/
theorem rowProb_eq (h : FinRow z) (c : Fin 1000) : rowProb z c = (pr z c : EReal) := by
  obtain ⟨e, s, _, _, _, _, _, hp⟩ := row_real h
  unfold pr; rw [hp, EReal.toReal_coe]

/-- A probability is positive. -/
theorem pr_pos (h : FinRow z) (c : Fin 1000) : 0 < pr z c := by
  obtain ⟨e, s, _, h1, _, h0, _, hp⟩ := row_real h
  unfold pr; rw [hp, EReal.toReal_coe]
  exact div_pos (h0 c) (by linarith)

/-- A probability is at most 1. -/
theorem pr_le_one (h : FinRow z) (c : Fin 1000) : pr z c ≤ 1 := by
  obtain ⟨e, s, _, h1, _, _, he, hp⟩ := row_real h
  unfold pr; rw [hp, EReal.toReal_coe]
  rw [div_le_one (by linarith)]
  exact (he c).trans h1

/-- A row's probabilities sum to 1. -/
theorem pr_sum (h : FinRow z) : ∑ c, pr z c = 1 := by
  obtain ⟨e, s, _, h1, hs, _, _, hp⟩ := row_real h
  have : ∀ c, pr z c = e c / s := fun c => by unfold pr; rw [hp, EReal.toReal_coe]
  simp only [this]
  rw [← Finset.sum_div, ← hs, div_self (by linarith)]

/-- A row whose sum exceeds `a` has no probability above `1 / a`. -/
theorem pr_le_inv (h : FinRow z) (a : ℝ) (ha : 0 < a) (hs : (a : EReal) < rowSum z) (c : Fin 1000) : pr z c ≤ 1 / a := by
  obtain ⟨e, s, hr, h1, _, _, he, hp⟩ := row_real h
  unfold pr; rw [hp, EReal.toReal_coe]
  rw [hr] at hs
  have hs' : a < s := EReal.coe_lt_coe_iff.mp hs
  rw [div_le_div_iff₀ (by linarith) ha]
  nlinarith [he c, mul_le_mul (he c) hs'.le ha.le zero_le_one]

/-- The f32 pattern of the kernel's row test, about 15.0001. -/
theorem ofBits_test : Ideal.ofBits .f32 0x41700069#32 = ((15728745 / 2 ^ 20 : ℝ) : EReal) := by
  simp [Ideal.ofBits, Ideal.ieee, -EReal.coe_mul]; norm_num

/-- The kernel's row test: a row whose sum exceeds it has no probability above the second boundary. -/
theorem pr_le_of_cold (h : FinRow z) (hs : ¬ rowSum z ≤ Ideal.ofBits .f32 0x41700069#32) (c : Fin 1000) :
    pr z c ≤ 8947849 / 2 ^ 27 := by
  rw [ofBits_test] at hs
  refine (pr_le_inv h _ (by norm_num) (not_le.mp hs) c).trans ?_
  norm_num

/-- The boundaries' f32 patterns. -/
def tbits : Fin 16 → BitVec 32 :=
  ![0x00000000#32, 0x3D888889#32, 0x3E088889#32, 0x3E4CCCCE#32, 0x3E888889#32, 0x3EAAAAAB#32, 0x3ECCCCCE#32, 0x3EEEEEF0#32,
    0x3F088889#32, 0x3F19999A#32, 0x3F2AAAAB#32, 0x3F3BBBBC#32, 0x3F4CCCCE#32, 0x3F5DDDDF#32, 0x3F6EEEF0#32, 0x3F800000#32]

/-- The boundary words denote the boundaries. -/
theorem ofBits_tbits (i : Fin 16) : Ideal.ofBits .f32 (tbits i) = ((tb i : ℝ) : EReal) := by
  fin_cases i <;> simp [tbits, tb, Ideal.ofBits, Ideal.ieee, -EReal.coe_mul] <;> norm_num

/-- The word of 0. -/
theorem ofBits_zero : Ideal.ofBits .f32 0x00000000#32 = ((0 : ℝ) : EReal) := by
  simp [Ideal.ofBits, Ideal.ieee, -EReal.coe_mul]
/-- The word of 1. -/
theorem ofBits_one : Ideal.ofBits .f32 0x3F800000#32 = ((1 : ℝ) : EReal) := by
  simp [Ideal.ofBits, Ideal.ieee, -EReal.coe_mul]; norm_num
/-- The word of the number of probabilities. -/
theorem ofBits_total : Ideal.ofBits .f32 0x4B7A0000#32 = ((16384000 : ℝ) : EReal) := by
  simp [Ideal.ofBits, Ideal.ieee, -EReal.coe_mul]
/-- The word of the number of rows. -/
theorem ofBits_batch : Ideal.ofBits .f32 0x46800000#32 = ((16384 : ℝ) : EReal) := by
  simp [Ideal.ofBits, Ideal.ieee, -EReal.coe_mul]; norm_num
/-- The word of minus infinity. -/
theorem ofBits_neg_inf : Ideal.ofBits .f32 0xFF800000#32 = ⊥ := by
  simp [Ideal.ofBits, Ideal.ieee]
/-- The word of infinity. -/
theorem ofBits_inf : Ideal.ofBits .f32 0x7F800000#32 = ⊤ := by
  simp [Ideal.ofBits, Ideal.ieee]

/-- A maximum of reals, as extended reals. -/
theorem coe_max (a b : ℝ) : ((max a b : ℝ) : EReal) = max (a : EReal) (b : EReal) := EReal.coe_strictMono.monotone.map_max

/-- A bin's contribution, computed in the extended reals from the three sums, is the real one. -/
theorem term_coe (n s a : ℝ) :
    (if Ideal.cmp .ogt (n : EReal) (Ideal.ofBits .f32 0x00000000#32) = 1#1 then
      max (Ideal.div (s : EReal) (max (n : EReal) (Ideal.ofBits .f32 0x3F800000#32))
          - Ideal.div (a : EReal) (max (n : EReal) (Ideal.ofBits .f32 0x3F800000#32)))
        (-(Ideal.div (s : EReal) (max (n : EReal) (Ideal.ofBits .f32 0x3F800000#32))
          - Ideal.div (a : EReal) (max (n : EReal) (Ideal.ofBits .f32 0x3F800000#32))))
        * Ideal.div (n : EReal) (Ideal.ofBits .f32 0x4B7A0000#32)
      else Ideal.ofBits .f32 0x00000000#32) = ((term n s a : ℝ) : EReal) := by
  rw [ofBits_zero, ofBits_one, ofBits_total]
  have hm : max (n : EReal) ((1 : ℝ) : EReal) = ((max n 1 : ℝ) : EReal) := (coe_max n 1).symm
  have h1 : (max n 1 : ℝ) ≠ 0 := ne_of_gt (lt_of_lt_of_le one_pos (le_max_right n 1))
  rw [hm, div_coe _ _ h1, div_coe _ _ h1, div_coe _ _ (by norm_num), ← EReal.coe_sub, ← EReal.coe_neg, ← coe_max,
    ← EReal.coe_mul, ← abs_eq_max_neg]
  unfold term
  by_cases hn : 0 < n
  · rw [if_pos hn, if_pos]
    simp [Ideal.cmp, hn]
  · rw [if_neg hn, if_neg]
    simp [Ideal.cmp, hn]
end Cert.Ece

end
-- ==== Proof.KI.Pay.lean ====
/-
  The body's vectors read at an index, at the extended reals.
-/
module

public import proofs.«01_k».proof.Proof.KI.Loop
public import proofs.«01_k».proof.Proof.Spec.Row
public import Idealize.ShloMosaic.Lib.Pointwise
public import Idealize.ShloMosaic.Lib.WordSum

@[expose] public section

set_option maxRecDepth 16384

noncomputable section

namespace Cert.KernelIdeal.Hand

open Cert.KernelIdeal Cert.KernelIdeal.Gen Cert.Ece
open Idealize.ShloMosaic Idealize.ShloMosaic.TcCoe

/-- The eight rows' softmax at an entry. -/
theorem pay11_apply (v : Vec Ideal S8x1000 .f32) (k : Fin 8) (c : Fin 1000) :
    k0_pay11 v (ix2 k c) = rowProb (fun c => v (ix2 k c)) c := by
  unfold rowProb rowSum rowExp rowMax
  pointwise [k0_pay11]
  rw [show Ideal.ofBits FTy.f32 4286578688#32 = ⊥ from ofBits_neg_inf]

/-- The block's row test at a row. -/
theorem pay2_apply (v : Vec Ideal S2048x1000 .f32) (r : Fin 2048) :
    k0_pay2 v (ix2 r 0) = Ideal.cmp .ole (rowSum fun c => v (ix2 r c)) (Ideal.ofBits .f32 0x41700069#32) := by
  unfold rowSum rowExp rowMax
  pointwise [k0_pay2]
  rw [show Ideal.ofBits FTy.f32 4286578688#32 = ⊥ from ofBits_neg_inf]

/-- A choice by equality of words. -/
theorem select_eq {α : Type} (a b : BitVec 32) (u v : α) : Scalar.select (IntOp.cmpi .eq a b) u v = if a = b then u else v := by
  by_cases h : a = b
  · subst h; simp [IntOp.cmpi, Scalar.select]
  · have : (IntOp.cmpi .eq a b) = 0#1 := by
      have hb : (a == b) = false := by simpa using h
      simp only [IntOp.cmpi, hb]; rfl
    rw [this, if_neg h]; rfl

/-- A row's label's probability. -/
theorem pay12_apply (v : Vec Ideal S8x1000 .f32) (y : Vec Ideal S1x8x1 .i32) (k : Fin 8) :
    k0_pay12 v y (ix1 k) = ∑ c : Fin 1000, if BitVec.ofNat 32 c.val = y (ix3 0 k 0) then rowProb (fun c => v (ix2 k c)) c else 0 := by
  pointwise [k0_pay12, pay11_apply]
  exact Finset.sum_congr rfl fun c _ => select_eq _ _ _ _

/-- The number of entries above a bound. -/
def cntG (pg : FVec Ideal S8x1000 .f32) (b : EReal) : EReal :=
  Scalar.sitofp (F := Ideal) .f32 (extractAt ![0, 0, 0] (shapeCast S1x1x1 (multiReductionI .add [1, 2] S1
    (shapeCast S1x8x1000 (extui 32 (cmpf .ogt pg (broadcast S8x1000 b)) natLt_1_32) shapeCasts_S8x1000_S1x8x1000) 0#32
      reduces_S1x8x1000_S1 rfl) shapeCasts_S1_S1x1x1) inpos_S1x1x1_p0_0_0)

/-- The sum of the entries above a bound. -/
def sumG (pg : FVec Ideal S8x1000 .f32) (b : EReal) : EReal :=
  extractAt ![0, 0, 0] (shapeCast S1x1x1 (multiReduction .add [1, 2] S1
    (shapeCast S1x8x1000 (select (cmpf .ogt pg (broadcast S8x1000 b)) pg (broadcast S8x1000 (Scalar.ofBits (F := Ideal) .f32 0x00000000#32)))
      shapeCasts_S8x1000_S1x8x1000) 0x00000000#32 reduces_S1x8x1000_S1 (.inl rfl) rfl) shapeCasts_S1_S1x1x1) inpos_S1x1x1_p0_0_0

/-- The number of the labels' probabilities above a bound. -/
def cntL (pl : FVec Ideal S8 .f32) (b : EReal) : EReal :=
  Scalar.sitofp (F := Ideal) .f32 (extractAt ![0, 0] (shapeCast S1x1 (multiReductionI .add [1] S1
    (shapeCast S1x8 (extui 32 (cmpf .ogt pl (broadcast S8 b)) natLt_1_32) shapeCasts_S8_S1x8) 0#32
      reduces_S1x8_S1 rfl) shapeCasts_S1_S1x1) inpos_S1x1_p0_0)

/-- A sum over a rank-3 index is a sum over its coordinates. -/
theorem sum_idx3 {M : Type} [AddCommMonoid M] {n1 n2 : ℕ} (f : (⟨3, ![1, n1, n2]⟩ : Shape).Idx → M) :
    ∑ i, f i = ∑ a : Fin n1, ∑ b : Fin n2, f (ix3 0 a b) := by
  rw [← Fintype.sum_prod_type' fun a b => f (ix3 0 a b)]
  refine Fintype.sum_equiv ⟨fun i => (i 1, i 2), fun q => ix3 0 q.1 q.2, fun i => ?_, fun _ => rfl⟩ _ _ fun i => ?_
  · refine (congrArg (fun z => ix3 z (i 1) (i 2)) (Subsingleton.elim (α := Fin 1) _ _)).trans (ix3_eta i)
  · exact congrArg f ((congrArg (fun z => ix3 z (i 1) (i 2)) (Subsingleton.elim (α := Fin 1) _ _)).trans (ix3_eta i)).symm

/-- A sum of flags into one word, converted to a float, is the number of them. -/
theorem count_eq {s : Shape} {axes : List (Fin s.rank)} (src : IVec s 32) (h : s.Reduces axes S1) (hacc : (0#32 : BitVec 32) = IKind.add.neutral)
    (p : s.Idx → Prop) [DecidablePred p] (hs : ∀ i, src i = if p i then 1#32 else 0#32) (hc : ∑ _i : s.Idx, 1 ≤ 8000) (j : S1.Idx) :
    Scalar.sitofp (F := Ideal) .f32 (multiReductionI .add axes S1 src 0#32 h hacc j) = ∑ i : s.Idx, if p i then (1 : EReal) else 0 := by
  have hf : (Finset.univ.filter fun i => h.drop i = j) = Finset.univ :=
    Finset.filter_true_of_mem fun i _ => funext fun b => by
      have e : ∀ u v : S1.Idx, u = v := fun u v => funext fun b => by
        obtain ⟨b, hb⟩ := b
        obtain rfl : b = 0 := Nat.lt_one_iff.mp hb
        exact Subsingleton.elim (α := Fin 1) _ _
      exact congrFun (e (h.drop i) j) b
  have hn : ∀ i, (src i).toNat = if p i then 1 else 0 := fun i => by rw [hs]; split <;> rfl
  have hle : (∑ i : s.Idx, if p i then 1 else 0) ≤ 8000 :=
    (Finset.sum_le_sum (g := fun _ => 1) fun i _ => by split <;> omega).trans hc
  have hw := WordSum.toNat_multiReductionI_add src h hacc j (by
    rw [hf, Finset.sum_congr rfl fun i _ => hn i]; omega)
  rw [hf, Finset.sum_congr rfl fun i _ => hn i] at hw
  rw [Ideal.scalar_sitofp_def, BitVec.toInt_eq_toNat_of_lt (by rw [hw]; omega), hw]
  push_cast
  rw [coe_sum]
  exact Finset.sum_congr rfl fun i _ => by split <;> simp

/-- A group has few elements. -/
theorem card1 : ∑ _i : S1x8x1000.Idx, 1 ≤ 8000 := by
  refine (sum_idx3 (n1 := 8) (n2 := 1000) fun _ => 1).le.trans ?_
  simp

/-- A group has few rows. -/
theorem card2 : ∑ _i : S1x8.Idx, 1 ≤ 8000 := by
  refine (Idealize.ShloMosaic.sum_idx2 (n0 := 1) (n1 := 8) fun _ => 1).le.trans ?_
  simp

/-- A comparison's flag as a word. -/
theorem flag_word (q : Prop) [Decidable q] : BitVec.setWidth 32 (BitVec.ofBool (decide q)) = if q then 1#32 else 0#32 := by
  by_cases h : q <;> simp [h]

/-- A choice by a comparison's flag. -/
theorem select_ofBool {α : Type} (q : Prop) [Decidable q] (u v : α) : Scalar.select (BitVec.ofBool (decide q)) u v = if q then u else v := by
  by_cases h : q <;> simp [h, Scalar.select]

/-- The number of entries above a bound, as a sum. -/
theorem cntG_eq (pg : FVec Ideal S8x1000 .f32) (b : EReal) :
    cntG pg b = ∑ k : Fin 8, ∑ c : Fin 1000, if b < pg (ix2 k c) then (1 : EReal) else 0 := by
  have h0 : cntG pg b = Scalar.sitofp (F := Ideal) .f32 (multiReductionI .add [1, 2] S1
    (shapeCast S1x8x1000 (extui 32 (cmpf .ogt pg (broadcast S8x1000 b)) natLt_1_32) shapeCasts_S8x1000_S1x8x1000) 0#32
      reduces_S1x8x1000_S1 rfl (ix1 0)) := by
    unfold cntG
    pointwise
  refine h0.trans ((count_eq _ _ _ (fun i => b < pg (ix2 (i 1) (i 2))) (fun i => ?_) card1 _).trans (sum_idx3 _))
  idx_vars i
  pointwise
  exact flag_word _

/-- The sum of the entries above a bound, as a sum. -/
theorem sumG_eq (pg : FVec Ideal S8x1000 .f32) (b : EReal) :
    sumG pg b = ∑ k : Fin 8, ∑ c : Fin 1000, if b < pg (ix2 k c) then pg (ix2 k c) else 0 := by
  have h0 : sumG pg b = multiReduction .add [1, 2] S1
    (shapeCast S1x8x1000 (select (cmpf .ogt pg (broadcast S8x1000 b)) pg (broadcast S8x1000 (Scalar.ofBits (F := Ideal) .f32 0x00000000#32)))
      shapeCasts_S8x1000_S1x8x1000) 0x00000000#32 reduces_S1x8x1000_S1 (.inl rfl) rfl (ix1 0) := by
    unfold sumG
    pointwise
  refine h0.trans ((Ideal.multiReduction_add_total _ _ _ (by decide) _ _ _).trans ((sum_idx3 _).trans ?_))
  refine Finset.sum_congr rfl fun k _ => Finset.sum_congr rfl fun c _ => ?_
  pointwise

/-- The number of the labels' probabilities above a bound, as a sum. -/
theorem cntL_eq (pl : FVec Ideal S8 .f32) (b : EReal) :
    cntL pl b = ∑ k : Fin 8, if b < pl (ix1 k) then (1 : EReal) else 0 := by
  have h0 : cntL pl b = Scalar.sitofp (F := Ideal) .f32 (multiReductionI .add [1] S1
    (shapeCast S1x8 (extui 32 (cmpf .ogt pl (broadcast S8 b)) natLt_1_32) shapeCasts_S8_S1x8) 0#32
      reduces_S1x8_S1 rfl (ix1 0)) := by
    unfold cntL
    pointwise
  refine h0.trans ((count_eq _ _ _ (fun i => b < pl (ix1 (i 1))) (fun i => ?_) card2 _).trans ?_)
  · idx_vars i
    pointwise
    exact flag_word _
  · rw [Idealize.ShloMosaic.sum_idx2]
    simp only [Fin.sum_univ_one]
    rfl

/-- Sixteen scalars as a vector. -/
def list16 (f : Fin 16 → EReal) : FVec Ideal S16 .f32 :=
  concatenate S16 0 [⟨S1, broadcast S1 (f 0)⟩, ⟨S1, broadcast S1 (f 1)⟩, ⟨S1, broadcast S1 (f 2)⟩, ⟨S1, broadcast S1 (f 3)⟩,
    ⟨S1, broadcast S1 (f 4)⟩, ⟨S1, broadcast S1 (f 5)⟩, ⟨S1, broadcast S1 (f 6)⟩, ⟨S1, broadcast S1 (f 7)⟩, ⟨S1, broadcast S1 (f 8)⟩,
    ⟨S1, broadcast S1 (f 9)⟩, ⟨S1, broadcast S1 (f 10)⟩, ⟨S1, broadcast S1 (f 11)⟩, ⟨S1, broadcast S1 (f 12)⟩, ⟨S1, broadcast S1 (f 13)⟩,
    ⟨S1, broadcast S1 (f 14)⟩, ⟨S1, broadcast S1 (f 15)⟩] concatenates_S1_S1_S1_S1_S1_S1_S1_S1_S1_S1_S1_S1_S1_S1_S1_S1_S16_d0

/-- A list of sixteen scalars, read. -/
theorem list16_apply (f : Fin 16 → EReal) (i : Fin 16) : list16 f (ix1 i) = f i := by
  unfold list16
  pointwise
  fin_vals i with hi
  all_goals simp only [hi, Nat.reduceSub, Nat.reduceLT, ↓reduceDIte, ↓reduceIte]
  all_goals exact congrArg f (Fin.ext hi.symm)

/-- A list's column from a function of the bound: zero in the first and last, the function at the column's bound elsewhere. -/
def col (f : EReal → EReal) (i : Fin 16) : EReal :=
  if i.val = 0 then Scalar.ofBits (F := Ideal) .f32 0x00000000#32 else if i.val = 15 then Scalar.ofBits (F := Ideal) .f32 0x00000000#32
  else f (Scalar.ofBits (F := Ideal) .f32 (tbits i))

/-- The step's accumulator over those. -/
theorem stepAcc_eq (x : Vec Ideal S2048x1000 .f32) (y : Vec Ideal S1x2048x1 .i32) (r : BitVec 32) (h : k0_chk1 r) (acc : FVec Ideal S3x16 .f32) :
    stepAcc x y r h acc = k0_pay9 acc (list16 (col (cntG (k0_pay11 (rows x r h))))) (list16 (col (sumG (k0_pay11 (rows x r h)))))
      (list16 (col (cntL (k0_pay12 (rows x r h) (labs y r h))))) := by
  rfl

end Cert.KernelIdeal.Hand

end
-- ==== Proof.KI.StepA.lean ====
/-
  Eight rows' three lists, at the extended reals, as coercions of real sums.
-/
module

public import proofs.«01_k».proof.Proof.KI.Pay
public import proofs.«01_k».proof.Proof.KI.Body
public import proofs.«01_k».proof.Proof.Spec.Ece
public import proofs.«01_k».proof.Proof.Spec.Row

@[expose] public section

set_option maxRecDepth 16384

noncomputable section

namespace Cert.KernelIdeal.Hand

open Cert.KernelIdeal Cert.KernelIdeal.Gen Cert.Ece
open Idealize.ShloMosaic Idealize.ShloMosaic.TcCoe

/-! ## Eight rows -/

section Eight

variable (v : Vec Ideal S8x1000 .f32) (z : Vec Ideal S1x8x1 .i32) (l : Fin 8 → Fin 1000)
  (hv : ∀ k, FinRow fun c => v (ix2 k c)) (hz : ∀ k, z (ix3 0 k 0) = BitVec.ofNat 32 (l k).val)

include hv in
/-- Their softmax is a real number. -/
theorem pay11_coe (k : Fin 8) (c : Fin 1000) : k0_pay11 v (ix2 k c) = ((pr (fun c => v (ix2 k c)) c : ℝ) : EReal) := by
  rw [pay11_apply, rowProb_eq (hv k)]

/-- A word of an index below 1000 names that index. -/
theorem ofNat_eq_iff (a b : Fin 1000) : BitVec.ofNat 32 a.val = BitVec.ofNat 32 b.val ↔ a = b := by
  constructor
  · intro h
    have := congrArg BitVec.toNat h
    simp only [BitVec.toNat_ofNat] at this
    exact Fin.ext (by omega)
  · rintro rfl; rfl

include hv hz in
/-- The labels' probabilities. -/
theorem pay12_coe (k : Fin 8) : k0_pay12 v z (ix1 k) = ((pr (fun c => v (ix2 k c)) (l k) : ℝ) : EReal) := by
  rw [pay12_apply, hz]
  simp only [ofNat_eq_iff]
  rw [Finset.sum_ite_eq', if_pos (Finset.mem_univ _), rowProb_eq (hv k)]

include hv hz in
/-- A trip's three lists, column by column. -/
theorem col_coe (j : Fin 3) (i : Fin 16) :
    (match j with
      | 0 => col (cntG (k0_pay11 v)) i
      | 1 => col (sumG (k0_pay11 v)) i
      | 2 => col (cntL (k0_pay12 v z)) i)
      = ((∑ k : Fin 8, stat (pr fun c => v (ix2 k c)) (l k) j i : ℝ) : EReal) := by
  have hzero : Scalar.ofBits (F := Ideal) .f32 0x00000000#32 = ((0 : ℝ) : EReal) := ofBits_zero
  have hb : Scalar.ofBits (F := Ideal) .f32 (tbits i) = ((tb i : ℝ) : EReal) := ofBits_tbits i
  unfold stat
  by_cases hi : i = 0 ∨ i = 15
  · have h0 : ∀ f, col f i = ((0 : ℝ) : EReal) := fun f => by
      unfold col
      rcases hi with rfl | rfl <;> exact hzero
    simp only [if_pos hi, Finset.sum_const_zero, h0]
    fin_cases j <;> rfl
  · have h1 : ∀ f, col f i = f ((tb i : ℝ) : EReal) := fun f => by
      unfold col
      have h1 : ¬ i.val = 0 := fun h => hi (.inl (Fin.ext h))
      have h2 : ¬ i.val = 15 := fun h => hi (.inr (Fin.ext h))
      rw [if_neg h1, if_neg h2, hb]
    simp only [if_neg hi, h1]
    rw [coe_sum]
    match j with
    | 0 =>
      show cntG _ _ = _
      rw [cntG_eq]
      refine Finset.sum_congr rfl fun k _ => ?_
      unfold over
      rw [coe_sum]
      refine Finset.sum_congr rfl fun c _ => ?_
      rw [pay11_coe v hv]
      simp only [EReal.coe_lt_coe_iff, wt]
      split <;> simp
    | 1 =>
      show sumG _ _ = _
      rw [sumG_eq]
      refine Finset.sum_congr rfl fun k _ => ?_
      unfold over
      rw [coe_sum]
      refine Finset.sum_congr rfl fun c _ => ?_
      rw [pay11_coe v hv]
      simp only [EReal.coe_lt_coe_iff, wt]
      split <;> simp
    | 2 =>
      show cntL _ _ = _
      rw [cntL_eq]
      refine Finset.sum_congr rfl fun k _ => ?_
      rw [pay12_coe v z l hv hz]
      have e : over (pr fun c => v (ix2 k c)) (l k) 2 (tb i) = if tb i < pr (fun c => v (ix2 k c)) (l k) then 1 else 0 := by
        unfold over
        rw [Finset.sum_eq_single (l k) (fun c _ hc => by simp [wt, hc]) (fun h => absurd (Finset.mem_univ _) h)]
        simp [wt]
      rw [e]
      simp only [EReal.coe_lt_coe_iff]
      split <;> simp

end Eight

/-- The three lists added to an accumulator. -/
theorem pay9_apply (acc : FVec Ideal S3x16 .f32) (f g h : Fin 16 → EReal) (j : Fin 3) (i : Fin 16) :
    k0_pay9 acc (list16 f) (list16 g) (list16 h) (ix2 j i) = acc (ix2 j i) + (match j with | 0 => f i | 1 => g i | 2 => h i) := by
  pointwise [k0_pay9, list16_apply]
  fin_cases j <;> rfl

end Cert.KernelIdeal.Hand

end
-- ==== Proof.KI.StepB.lean ====
/-
  The row loop's accumulator, at the extended reals, as the coercion of a real sum over the block's rows.
-/
module

public import proofs.«01_k».proof.Proof.KI.StepA
public import proofs.«01_k».proof.Proof.KI.Body
public import proofs.«01_k».proof.Proof.Spec.Ece
public import proofs.«01_k».proof.Proof.Spec.Row

@[expose] public section

set_option maxRecDepth 16384

noncomputable section

namespace Cert.KernelIdeal.Hand

open Cert.KernelIdeal Cert.KernelIdeal.Gen Cert.Ece
open Idealize.ShloMosaic Idealize.ShloMosaic.TcCoe

/-! ## The row loop -/

section Loop

variable (x : Vec Ideal S2048x1000 .f32) (y : Vec Ideal S1x2048x1 .i32) (l : Fin 2048 → Fin 1000)
  (hx : ∀ r, FinRow fun c => x (ix2 r c)) (hy : ∀ r, y (ix3 0 r 0) = BitVec.ofNat 32 (l r).val)

/-- A row's statistics. -/
def rstat (s : Fin 2048) (j : Fin 3) (i : Fin 16) : ℝ := stat (pr fun c => x (ix2 s c)) (l s) j i

/-- The block's row at an offset from a trip's first. -/
def rowOf (r : BitVec 32) (h : r.toNat < 2048) (k : Fin 8) : Fin 2048 := ⟨r.toNat / 8 * 8 + k.val, by have := k.isLt; omega⟩

/-- A group's logits, read. -/
theorem rows_apply (r : BitVec 32) (h : r.toNat < 2048) (k : Fin 8) (c : Fin 1000) :
    rows x r (chk_of_lt r h) (ix2 k c) = x (ix2 (rowOf r h k) c) := by
  have e := base_toNat r h
  unfold rows
  pointwise
  refine congrArg x (congrArg₂ ix2 (Fin.ext ?_) (Fin.ext ?_))
  · show k0_off1 r 0 + k.val = r.toNat / 8 * 8 + k.val
    rw [off1_eq, ← e]; rfl
  · show k0_off1 r 1 + c.val = c.val
    rw [off1_eq]; exact Nat.zero_add _

/-- A group's labels, read. -/
theorem labs_apply (r : BitVec 32) (h : r.toNat < 2048) (k : Fin 8) :
    labs y r (chk_of_lt r h) (ix3 0 k 0) = y (ix3 0 (rowOf r h k) 0) := by
  have e := base_toNat r h
  unfold labs
  pointwise
  rw [show (rowOf r h k) = ⟨k0_off2 r 1 + k.val, by rw [off2_eq]; show (k0_mult1 r).toNat + k.val < 2048; rw [e]; exact (rowOf r h k).isLt⟩ from
    Fin.ext (by show r.toNat / 8 * 8 + k.val = k0_off2 r 1 + k.val; rw [off2_eq, ← e]; rfl)]
  exact congrArg y (congrArg₂ (fun a b => ix3 a _ b) (Subsingleton.elim (α := Fin 1) _ _) (Subsingleton.elim (α := Fin 1) _ _))

include hx hy in
/-- A trip adds its eight rows. -/
theorem stepAcc_apply (r : BitVec 32) (h : r.toNat < 2048) (acc : FVec Ideal S3x16 .f32) (j : Fin 3) (i : Fin 16) :
    stepAcc x y r (chk_of_lt r h) acc (ix2 j i) = acc (ix2 j i) + ((∑ k : Fin 8, rstat x l (rowOf r h k) j i : ℝ) : EReal) := by
  have hv : ∀ k c, rows x r (chk_of_lt r h) (ix2 k c) = x (ix2 (rowOf r h k) c) := rows_apply x r h
  have hv' : ∀ k, (fun c => rows x r (chk_of_lt r h) (ix2 k c)) = fun c => x (ix2 (rowOf r h k) c) := fun k => funext (hv k)
  rw [stepAcc_eq, pay9_apply]
  refine congrArg (acc (ix2 j i) + ·) ((col_coe _ _ (fun k => l (rowOf r h k)) (fun k => ?_) (fun k => ?_) j i).trans ?_)
  · rw [hv']; exact hx _
  · rw [labs_apply, hy]
  · simp only [hv', rstat]

/-- A sum over the rows from an eight-row base is that base's eight and those past them. -/
theorem sum_eight (f : Fin 2048 → ℝ) (b : ℕ) (hb : b + 8 ≤ 2048) :
    (∑ s : Fin 2048, if b ≤ s.val ∧ s.val < b + 8 then f s else 0) = ∑ k : Fin 8, f ⟨b + k.val, by have := k.isLt; omega⟩ := by
  have e1 : ∀ s : Fin 2048, f s = (fun n => if h : n < 2048 then f ⟨n, h⟩ else 0) s.val := fun s => by simp
  rw [Finset.sum_congr rfl fun s _ => by rw [e1 s],
    Fin.sum_univ_eq_sum_range (fun n => if b ≤ n ∧ n < b + 8 then (if h : n < 2048 then f ⟨n, h⟩ else 0) else 0) 2048,
    ← Finset.sum_filter,
    show (Finset.range 2048).filter (fun n => b ≤ n ∧ n < b + 8) = Finset.Ico b (b + 8) from by
      ext n; simp only [Finset.mem_filter, Finset.mem_range, Finset.mem_Ico]; omega,
    Finset.sum_Ico_eq_sum_range, Nat.add_sub_cancel_left, ← Fin.sum_univ_eq_sum_range (fun n => if h : b + n < 2048 then f ⟨b + n, h⟩ else 0) 8]
  exact Finset.sum_congr rfl fun k _ => by rw [dif_pos]

include hx in
/-- A row that fails the test adds nothing. -/
theorem rstat_cold (s : Fin 2048) (h : ¬ k0_pay2 x (ix2 s 0) = 1#1) (j : Fin 3) (i : Fin 16) : rstat x l s j i = 0 := by
  refine stat_eq_zero _ _ (pr_le_of_cold (hx s) fun hs => h ?_) j i
  rw [pay2_apply]
  show BitVec.ofBool (decide (_ ≤ _)) = 1#1
  rw [decide_eq_true hs]; rfl

include hx hy in
/-- The loop adds the rows from its first trip's base on. -/
theorem loopRes_apply (j : Fin 3) (i : Fin 16) : ∀ (n : ℕ) (r : BitVec 32) (acc : FVec Ideal S3x16 .f32), r.toNat ≤ 2048 →
    2048 ≤ n + r.toNat → (loopRes x y (k0_pay2 x) n r acc).2 (ix2 j i)
      = acc (ix2 j i) + ((∑ s : Fin 2048, if r.toNat / 8 * 8 ≤ s.val then rstat x l s j i else 0 : ℝ) : EReal) := by
  have hend : ∀ r : BitVec 32, 2048 ≤ r.toNat → (∑ s : Fin 2048, if r.toNat / 8 * 8 ≤ s.val then rstat x l s j i else 0) = 0 := fun r hr =>
    Finset.sum_eq_zero fun s _ => if_neg (by have := s.isLt; omega)
  intro n
  induction n with
  | zero =>
    intro r acc hr hn
    rw [hend r (by omega), EReal.coe_zero, add_zero, loopRes]
  | succ n ih =>
    intro r acc hr hn
    rw [loopRes]
    by_cases h : r.toNat < 2048
    · have e := base_toNat r h
      have hle := nextR_le (k0_pay2 x) r h
      have hlt := lt_nextR (k0_pay2 x) r h
      have hge : r.toNat / 8 * 8 + 8 ≤ (nextR (k0_pay2 x) (k0_mult1 r)).toNat :=
        (le_nextR _ _ (by omega) _).mpr ⟨by omega, fun s hs => by omega⟩
      have hnx := ((le_nextR (k0_pay2 x) (k0_mult1 r) (by omega) _).mp le_rfl).2
      rw [dif_pos h, ih _ _ hle (by omega), stepAcc_apply x y l hx hy r h, add_assoc, ← EReal.coe_add]
      refine congrArg (fun q : ℝ => acc (ix2 j i) + (q : EReal)) ?_
      have e8 := sum_eight (fun s => rstat x l s j i) (r.toNat / 8 * 8) (by omega)
      refine (congrArg (· + _) e8.symm).trans ?_
      rw [← Finset.sum_add_distrib]
      refine Finset.sum_congr rfl fun s _ => ?_
      generalize hq : (nextR (k0_pay2 x) (k0_mult1 r)).toNat = q at *
      by_cases h1 : r.toNat / 8 * 8 ≤ s.val
      · by_cases h2 : s.val < r.toNat / 8 * 8 + 8
        · rw [if_pos ⟨h1, h2⟩, if_neg (by omega), if_pos h1, add_zero]
        · rw [if_neg (fun h => h2 h.2), if_pos h1, zero_add]
          by_cases h3 : q / 8 * 8 ≤ s.val
          · rw [if_pos h3]
          · rw [if_neg h3, rstat_cold x l hx s fun hs => ?_]
            have := hnx s ⟨hs, by omega⟩
            omega
      · rw [if_neg (fun h => h1 h.1), if_neg (by omega), if_neg h1, add_zero]
    · rw [dif_neg h, hend r (by omega), EReal.coe_zero, add_zero]

/-- The loop's sums start at zero. -/
theorem pay4_apply (j : Fin 3) (i : Fin 16) : (k0_pay4 (F := Ideal)) (ix2 j i) = 0 := by
  pointwise [k0_pay4]

include hx hy in
/-- The loop from the first row that passes the test adds the block's rows. -/
theorem loop_start (j : Fin 3) (i : Fin 16) (n : ℕ) (hn : 2048 ≤ n) :
    loopAcc x y n (ix2 j i) = ((∑ s, rstat x l s j i : ℝ) : EReal) := by
  have hst := ((le_startR (k0_pay2 x) _).mp le_rfl).2
  have hle : (startR (k0_pay2 x)).toNat ≤ 2048 := ((le_startR (k0_pay2 x) _).mp le_rfl).1
  refine (loopRes_apply x y l hx hy j i n _ _ hle (le_trans hn (Nat.le_add_right _ _))).trans ?_
  rw [pay4_apply, zero_add]
  refine congrArg (fun q : ℝ => (q : EReal)) (Finset.sum_congr rfl fun s _ => ?_)
  by_cases h : (startR (k0_pay2 x)).toNat / 8 * 8 ≤ s.val
  · rw [if_pos h]
  · rw [if_neg h]
    refine (rstat_cold x l hx s (fun hs => ?_) j i).symm
    have := hst s hs
    omega

include hx hy in
/-- A block's accumulator. -/
theorem blockAcc_apply (j : Fin 3) (i : Fin 16) : blockAcc x y (ix2 j i) = ((∑ s, rstat x l s j i : ℝ) : EReal) :=
  loop_start x y l hx hy j i 2048 (Nat.le_refl _)

end Loop

end Cert.KernelIdeal.Hand

end
-- ==== Proof.KI.StepC.lean ====
/-
  The kernel's last vector, at the extended reals, from its totals.
-/
module

public import proofs.«01_k».proof.Proof.KI.Pay
public import proofs.«01_k».proof.Proof.KI.Body
public import proofs.«01_k».proof.Proof.Spec.Ece
public import proofs.«01_k».proof.Proof.Spec.Row

@[expose] public section

set_option maxRecDepth 16384

noncomputable section

namespace Cert.KernelIdeal.Hand

open Cert.KernelIdeal Cert.KernelIdeal.Gen Cert.Ece
open Idealize.ShloMosaic Idealize.ShloMosaic.TcCoe

/-! ## The result -/

/-- The totals' row, its first entry replaced. -/
def cat16 (h : EReal) (acc : FVec Ideal S3x16 .f32) (o : Fin 2 → ℕ) (ho : S3x16.Slices o S1x15) : FVec Ideal S16 .f32 :=
  concatenate S16 0 [⟨S1, broadcast S1 h⟩, ⟨S15, shapeCast S15 (extractStridedSlice S1x15 o acc ho) shapeCasts_S1x15_S15⟩] concatenates_S1_S15_S16_d0

/-- The bins' contributions, summed, from the three rows of totals. -/
def finalOf (a b c : FVec Ideal S16 .f32) : FVec Ideal S1x1 .f32 :=
  broadcast S1x1 (extractAt ![0, 0] (shapeCast S1x1 (multiReduction .add [1] S1 (shapeCast S1x15
    (select (cmpf .ogt (subf (extractStridedSlice S15 ![0] a slices_S16_o0_S15) (extractStridedSlice S15 ![1] a slices_S16_o1_S15))
        (broadcast S15 (Scalar.ofBits (F := Ideal) .f32 0x00000000#32)))
      (mulf (absf (subf
          (divf (subf (extractStridedSlice S15 ![0] b slices_S16_o0_S15) (extractStridedSlice S15 ![1] b slices_S16_o1_S15))
            (maximumf (subf (extractStridedSlice S15 ![0] a slices_S16_o0_S15) (extractStridedSlice S15 ![1] a slices_S16_o1_S15))
              (broadcast S15 (Scalar.ofBits (F := Ideal) .f32 0x3F800000#32))))
          (divf (subf (extractStridedSlice S15 ![0] c slices_S16_o0_S15) (extractStridedSlice S15 ![1] c slices_S16_o1_S15))
            (maximumf (subf (extractStridedSlice S15 ![0] a slices_S16_o0_S15) (extractStridedSlice S15 ![1] a slices_S16_o1_S15))
              (broadcast S15 (Scalar.ofBits (F := Ideal) .f32 0x3F800000#32))))))
        (divf (subf (extractStridedSlice S15 ![0] a slices_S16_o0_S15) (extractStridedSlice S15 ![1] a slices_S16_o1_S15))
          (broadcast S15 (Scalar.ofBits (F := Ideal) .f32 0x4B7A0000#32))))
      (broadcast S15 (Scalar.ofBits (F := Ideal) .f32 0x00000000#32)))
    shapeCasts_S15_S1x15) 0x00000000#32 reduces_S1x15_S1 (.inl rfl) rfl) shapeCasts_S1_S1x1) inpos_S1x1_p0_0)

/-- The result in terms of the accumulator's three rows. -/
theorem pay6_eq (acc : Vec Ideal S3x16 .f32) : k0_pay6 acc
    = finalOf (cat16 (Scalar.ofBits (F := Ideal) .f32 0x4B7A0000#32) acc ![0, 1] slices_S3x16_o0_1_S1x15)
        (cat16 (Scalar.ofBits (F := Ideal) .f32 0x46800000#32) acc ![1, 1] slices_S3x16_o1_1_S1x15)
        (cat16 (Scalar.ofBits (F := Ideal) .f32 0x46800000#32) acc ![2, 1] slices_S3x16_o2_1_S1x15) := rfl

/-- A row of the accumulator with its first entry replaced, read. -/
theorem cat16_apply (h : EReal) (acc : FVec Ideal S3x16 .f32) (q : Fin 3) (ho : S3x16.Slices ![q.val, 1] S1x15) (i : Fin 16) :
    cat16 h acc ![q.val, 1] ho (ix1 i) = if i = 0 then h else acc (ix2 q i) := by
  unfold cat16
  pointwise
  by_cases hi : i = 0
  · subst hi; rfl
  · have h1 : 1 ≤ i.val := Nat.one_le_iff_ne_zero.mpr fun h => hi (Fin.ext h)
    rw [if_neg hi, dif_neg (by omega)]
    exact congrArg (fun z => acc (ix2 q z)) (Fin.ext (by show 1 + (i.val - 1) = i.val; omega))

/-- The result from the three rows of sums. -/
theorem finalOf_apply (a b c : FVec Ideal S16 .f32) (A B C : Fin 16 → ℝ) (ha : ∀ i, a (ix1 i) = ((A i : ℝ) : EReal))
    (hb : ∀ i, b (ix1 i) = ((B i : ℝ) : EReal)) (hc : ∀ i, c (ix1 i) = ((C i : ℝ) : EReal)) :
    finalOf a b c = fun _ => ((∑ i : Fin 15, term (A i.castSucc - A i.succ) (B i.castSucc - B i.succ) (C i.castSucc - C i.succ) : ℝ) : EReal) := by
  funext e
  unfold finalOf
  pointwise
  rw [coe_sum]
  refine Finset.sum_congr rfl fun k _ => ?_
  have e1 : ∀ h, (⟨1 + k.val, h⟩ : Fin 16) = k.succ := fun h => Fin.ext (Nat.add_comm _ _)
  have e0 : ∀ h, (⟨k.val, h⟩ : Fin 16) = k.castSucc := fun h => rfl
  simp only [e1, e0, ha, hb, hc, ← EReal.coe_sub]
  refine Eq.trans ?_ (term_coe _ _ _)
  rw [ofBits_zero, ofBits_one]
  rw [show ∀ z : EReal, FloatOps.absf (F := Ideal) (φ := .f32) z = max z (-z) from fun z => rfl]
  rw [EReal.coe_zero, EReal.coe_one]
  refine if_congr ?_ rfl rfl
  show _ ↔ BitVec.ofBool (decide _) = 1#1
  by_cases h : (0 : EReal) < ((A k.castSucc - A k.succ : ℝ) : EReal)
  · rw [decide_eq_true h]; exact ⟨fun _ => rfl, fun _ => h⟩
  · rw [decide_eq_false h]; exact ⟨fun h' => absurd h' h, fun h' => absurd h' (by decide)⟩

end Cert.KernelIdeal.Hand

end
-- ==== Proof.KI.Value.lean ====
/-
  The kernel's result, at the extended reals: the calibration error of its arguments.
-/
module

public import proofs.«01_k».proof.Proof.KI.Run
public import proofs.«01_k».proof.Proof.KI.StepB
public import proofs.«01_k».proof.Proof.KI.StepC
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen Cert.Ece
open Idealize.ShloMosaic Idealize.ShloMosaic.TcCoe
open Idealize.ShloMosaic.Pipeline (Dat Cfg Window)

variable (m : (ℓ : Loc nD τ sig) → Buf (Elt Ideal) ℓ)

/-- Every window's block index at a point. -/
theorem idx : ∀ t : Fin grid0.N, win0_0.index t = ![t.val, 0] ∧ win0_1.index t = ![t.val, 0, 0] ∧ win0_2.index t = ![0, 0] := by decide +kernel

/-- The labels as the region finds them. -/
theorem V_v0 (c : Dev nD) : V m c main_v0 = shapeCast S8x2048x1 (m ((c : Thread nD τ).loc main_arg1)) shapeCasts_S16384_S8x2048x1 := by
  unfold_abbrev_sides
  after_results
  rfl

/-- The logits' block at a point. -/
theorem iblk0_apply (c : Dev nD) (t : Fin (cfg0 (F := Ideal)).N) (s : Fin 2048) (q : Fin 1000) (h : t.val * 2048 + s.val < 16384) :
    iblk m c 0 t (ix2 s q) = (m ((c : Thread nD τ).loc main_arg0) : Vec Ideal S16384x1000 .f32) (ix2 ⟨t.val * 2048 + s.val, h⟩ q) := by
  unfold iblk
  show V m c main_arg0 _ = _
  rw [V_arg0]
  blk_ext! [idx t]

/-- The labels' block at a point. -/
theorem iblk1_apply (c : Dev nD) (t : Fin (cfg0 (F := Ideal)).N) (s : Fin 2048) (h : t.val * 2048 + s.val < 16384) :
    iblk m c 1 t (ix3 0 s 0) = (m ((c : Thread nD τ).loc main_arg1) : Vec Ideal S16384 .i32) (ix1 ⟨t.val * 2048 + s.val, h⟩) := by
  blk_ext! [iblk, V, idx t]

/-- The accumulator starts at zero. -/
theorem pay1_apply (j : Fin 3) (i : Fin 16) : (k0_pay1 (F := Ideal)) (ix2 j i) = 0 := by
  pointwise [k0_pay1]

/-- A step adds to the accumulator. -/
theorem pay5_apply (a b : FVec Ideal S3x16 .f32) (j : Fin 3) (i : Fin 16) : k0_pay5 a b (ix2 j i) = b (ix2 j i) + a (ix2 j i) := by
  pointwise [k0_pay5]

section Total

variable (c : Dev nD) (X : Vec Ideal S16384x1000 .f32) (Y : Vec Ideal S16384 .i32) (L : Fin 16384 → Fin 1000)
  (eX : m ((c : Thread nD τ).loc main_arg0) = X) (eY : m ((c : Thread nD τ).loc main_arg1) = Y)
  (hX : ∀ r, FinRow fun q => X (ix2 r q)) (hY : ∀ r, Y (ix1 r) = BitVec.ofNat 32 (L r).val)

/-- A row's probabilities. -/
def prob (r : Fin 16384) : Fin 1000 → ℝ := pr fun q => X (ix2 r q)

/-- A row of a block. -/
def rowAt (t : Fin 8) (s : Fin 2048) : Fin 16384 := ⟨t.val * 2048 + s.val, by have := t.isLt; have := s.isLt; omega⟩

/-- What a block adds. -/
def blockSum (t : Fin 8) (j : Fin 3) (i : Fin 16) : ℝ := ∑ s, stat (prob X (rowAt t s)) (L (rowAt t s)) j i

/-- There are eight steps. -/
theorem N_eq : (cfg0 (F := Ideal)).N = 8 := N_0

include eX eY hX hY in
/-- One step's sums are those of its rows. -/
theorem block_apply (t : Fin (cfg0 (F := Ideal)).N) (j : Fin 3) (i : Fin 16) :
    blockAcc (iblk m c 0 t) (iblk m c 1 t) (ix2 j i) = ((blockSum X L ⟨t.val, t.isLt.trans_eq N_eq⟩ j i : ℝ) : EReal) := by
  have ht : t.val < 8 := t.isLt.trans_eq N_eq
  have e0 : ∀ s q, iblk m c 0 t (ix2 s q) = X (ix2 (rowAt ⟨t.val, ht⟩ s) q) := fun s q => by
    rw [iblk0_apply m c t s q (rowAt ⟨t.val, ht⟩ s).isLt, eX]; rfl
  have e1 : ∀ s, iblk m c 1 t (ix3 0 s 0) = Y (ix1 (rowAt ⟨t.val, ht⟩ s)) := fun s => by
    rw [iblk1_apply m c t s (rowAt ⟨t.val, ht⟩ s).isLt, eY]; rfl
  have e0' : ∀ s, (fun q => iblk m c 0 t (ix2 s q)) = fun q => X (ix2 (rowAt ⟨t.val, ht⟩ s) q) := fun s => funext (e0 s)
  refine (blockAcc_apply (iblk m c 0 t) (iblk m c 1 t) (fun s => L (rowAt ⟨t.val, ht⟩ s)) (fun s => ?_) (fun s => ?_) j i).trans ?_
  · exact (e0' s).symm ▸ hX _
  · exact (e1 s).trans (hY _)
  · unfold blockSum rstat
    refine congrArg (fun z : ℝ => (z : EReal)) (Finset.sum_congr rfl fun s _ => ?_)
    exact congrArg (fun z => stat (pr z) (L (rowAt ⟨t.val, ht⟩ s)) j i) (e0' s)

include eX eY hX hY in
/-- The accumulator after a point. -/
theorem accAt_apply (j : Fin 3) (i : Fin 16) : ∀ (n : ℕ) (h : n < (cfg0 (F := Ideal)).N), accAt m c n h (ix2 j i)
    = ((∑ t ∈ Finset.range (n + 1), (if ht : t < 8 then blockSum X L ⟨t, ht⟩ j i else 0) : ℝ) : EReal) := by
  intro n
  induction n with
  | zero =>
    intro h
    rw [accAt, pay5_apply, pay1_apply, zero_add, block_apply m c X Y L eX eY hX hY, Finset.sum_range_one, dif_pos (by omega)]
  | succ n ih =>
    intro h
    rw [accAt, pay5_apply, ih, block_apply m c X Y L eX eY hX hY, ← EReal.coe_add, Finset.sum_range_succ _ (n + 1),
      dif_pos (h.trans_eq N_eq)]

/-- The blocks' sums are the sum over every row. -/
theorem sum_blocks (j : Fin 3) (i : Fin 16) :
    ∑ t ∈ Finset.range (7 + 1), (if ht : t < 8 then blockSum X L ⟨t, ht⟩ j i else 0) = ∑ r, stat (prob X r) (L r) j i := by
  rw [← Fin.sum_univ_eq_sum_range (fun t => if ht : t < 8 then blockSum X L ⟨t, ht⟩ j i else 0) (7 + 1)]
  refine Eq.trans (Finset.sum_congr rfl fun t _ => dif_pos t.isLt) ?_
  unfold blockSum
  refine Eq.trans (Fintype.sum_prod_type' fun (t : Fin 8) (s : Fin 2048) => stat (prob X (rowAt t s)) (L (rowAt t s)) j i).symm ?_
  refine Fintype.sum_equiv (finProdFinEquiv (m := 8) (n := 2048)) _ (fun r : Fin (8 * 2048) => stat (prob X r) (L r) j i) fun q => ?_
  have e : (finProdFinEquiv q : Fin (8 * 2048)) = rowAt q.1 q.2 := Fin.ext (by
    show q.2.val + 2048 * q.1.val = q.1.val * 2048 + q.2.val
    omega)
  rw [e]

include eX eY hX hY in
/-- The last point's vector is the calibration error. -/
theorem last_apply (t : Fin (cfg0 (F := Ideal)).N) (ht : t.val = 7) :
    k0_pay6 (accAt m c t.val t.isLt) = fun _ => ((ece (prob X) L : ℝ) : EReal) := by
  have hacc : ∀ j i, accAt m c t.val t.isLt (ix2 j i) = ((∑ r, stat (prob X r) (L r) j i : ℝ) : EReal) := fun j i => by
    rw [accAt_apply m c X Y L eX eY hX hY, ht, sum_blocks]
  have hrow : ∀ (b : EReal) (j : Fin 3) (ho : S3x16.Slices ![j.val, 1] S1x15), b = ((head j : ℝ) : EReal) → ∀ i,
      cat16 b (accAt m c t.val t.isLt) ![j.val, 1] ho (ix1 i) = ((tails (prob X) L j i : ℝ) : EReal) := fun b j ho hb i => by
    rw [cat16_apply, hacc, hb]
    unfold tails
    split <;> rfl
  refine (pay6_eq _).trans ((finalOf_apply _ _ _ (tails (prob X) L 0) (tails (prob X) L 1) (tails (prob X) L 2)
    (hrow _ 0 _ ofBits_total) (hrow _ 1 _ ofBits_batch) (hrow _ 2 _ ofBits_batch)).trans ?_)
  funext _
  refine congrArg (fun z : ℝ => (z : EReal)) (Finset.sum_congr rfl fun i _ => ?_)
  have h0 : ∀ r q, 0 < prob X r q := fun r q => pr_pos (hX r) q
  have h1 : ∀ r q, prob X r q ≤ 1 := fun r q => pr_le_one (hX r) q
  have hs : ∀ r, ∑ q, prob X r q = 1 := fun r => pr_sum (hX r)
  rw [tails_sub _ _ h0 h1 hs, tails_sub _ _ h0 h1 hs, tails_sub _ _ h0 h1 hs]

include eX eY hX hY in
/-- The result array at the region's end is the calibration error. -/
theorem final : (dats m 0 c).arrAt 2 (Fin.last (cfg0 (F := Ideal)).N) = fun _ => ((ece (prob X) L : ℝ) : EReal) := by
  refine (dats m 0 c).arrAt_eq_of_after_last 2 ⟨7, by rw [N_eq]; decide⟩ (by decide +kernel) _ fun j => ?_
  rw [after2, last_apply m c X Y L eX eY hX hY _ rfl]
  exact cast_eq _ _

end Total

end Cert.KernelIdeal.Hand

end
-- ==== Proof.RI.Probs.lean ====
/-
  The reference's probabilities and hits at an entry, at the extended reals.
-/
module

public import proofs.«01_k».proof.Proof.Gen.ReferenceIdeal.Run
public import proofs.«01_k».proof.Proof.Spec.Row
public import proofs.«01_k».proof.Proof.Spec.Ece
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Ece
open Idealize.ShloMosaic Idealize.ShloMosaic.TcCoe Idealize.ShloMosaic.StableHlo

/-- An entry's place in the flattened array. -/
def flat (r : Fin 16384) (c : Fin 1000) : Fin 16384000 := ⟨r.val * 1000 + c.val, by have := r.isLt; have := c.isLt; omega⟩

/-- The rows' maxima. -/
def maxs (X : FVec Ideal S16384x1000 .f32) : FVec Ideal S16384 .f32 :=
  Host.reduce FloatOps.maximumf X (constant S_ .f32 0xFF800000#32) reducesTo_S16384x1000_S16384_d1 h_S_

/-- A row's maximum, read. -/
theorem maxs_apply (X : FVec Ideal S16384x1000 .f32) (r : Fin 16384) : maxs X (ix1 r) = Finset.univ.fold max (Ideal.ofBits .f32 0xFF800000#32) (fun q => X (ix2 r q)) := by
  pointwise [maxs]

/-- The rows' exponentials, from their maxima. -/
def expOf (X : FVec Ideal S16384x1000 .f32) (M : FVec Ideal S16384 .f32) : FVec Ideal S16384x1000 .f32 :=
  Host.exp (subf X (broadcastInDim S16384x1000 ![0, 1] bcast_S16384x1_S16384x1000_0_1 (broadcastInDim S16384x1 ![0] bcast_S16384_S16384x1_0 (maximumf (broadcastInDim S16384 ![] bcast_S_S16384 (constant S_ .f32 0xFF800000#32)) M))))

/-- One exponential, read. -/
theorem expOf_apply (X : FVec Ideal S16384x1000 .f32) (M : FVec Ideal S16384 .f32) (r : Fin 16384) (c : Fin 1000) :
    expOf X M (ix2 r c) = Ideal.exp (X (ix2 r c) - max (Ideal.ofBits .f32 0xFF800000#32) (M (ix1 r))) := by
  pointwise [expOf]

/-- The rows' exponentials. -/
def exps (X : FVec Ideal S16384x1000 .f32) : FVec Ideal S16384x1000 .f32 := expOf X (maxs X)

/-- The exponentials are the specification's. -/
theorem exps_apply (X : FVec Ideal S16384x1000 .f32) (r : Fin 16384) (c : Fin 1000) : exps X (ix2 r c) = rowExp (fun q => X (ix2 r q)) c := by
  unfold exps rowExp rowMax
  rw [expOf_apply, maxs_apply, ofBits_neg_inf, max_eq_right bot_le]

/-- The rows' probabilities. -/
def quot (e : FVec Ideal S16384x1000 .f32) : FVec Ideal S16384x1000 .f32 :=
  Host.divf e (broadcastInDim S16384x1000 ![0, 1] bcast_S16384x1_S16384x1000_0_1 (broadcastInDim S16384x1 ![0] bcast_S16384_S16384x1_0 (Host.reduceAdd e (constant S_ .f32 0x00000000#32) reducesTo_S16384x1000_S16384_d1 h_S_)))

/-- A quotient by the row's sum, read. -/
theorem quot_apply (e : FVec Ideal S16384x1000 .f32) (r : Fin 16384) (c : Fin 1000) :
    quot e (ix2 r c) = Ideal.div (e (ix2 r c)) (∑ q, e (ix2 r q)) := by
  pointwise [quot]

/-- Flattening reads the entry's row and column. -/
theorem flat_apply {α : Type} (v : S16384x1000.Idx → α) (r : Fin 16384) (c : Fin 1000) :
    shapeCast S16384000 v shapeCasts_S16384x1000_S16384000 (ix1 (flat r c)) = v (ix2 r c) := by
  have e1 : (flat r c).val / 1000 = r.val := by show (r.val * 1000 + c.val) / 1000 = r.val; have := c.isLt; omega
  have e2 : (flat r c).val % 1000 = c.val := by show (r.val * 1000 + c.val) % 1000 = c.val; have := c.isLt; omega
  pointwise
  exact congrArg v (congrArg₂ ix2 (Fin.ext e1) (Fin.ext e2))

/-- The entries' hits. -/
def hits (Y : IVec S16384 32) : IVec S16384x1000 1 :=
  cmpi .eq (broadcastInDim S16384x1000 ![0, 1] bcast_S1x1000_S16384x1000_0_1 (broadcastInDim S1x1000 ![1] bcast_S1000_S1x1000_1 (iotaInDim S1000 32 0))) (broadcastInDim S16384x1000 ![0, 1] bcast_S16384x1_S16384x1000_0_1 (broadcastInDim S16384x1 ![0] bcast_S16384_S16384x1_0 Y))

/-- Whether a column is the row's label, read. -/
theorem hits_apply (Y : IVec S16384 32) (r : Fin 16384) (c : Fin 1000) :
    hits Y (ix2 r c) = IntOp.cmpi .eq (BitVec.ofNat 32 c.val) (Y (ix1 r)) := by
  pointwise [hits]

end Cert.ReferenceIdeal.Hand

end
-- ==== Proof.RI.Read.lean ====
/-
  The reference's operations at the extended reals: its probabilities, its hits, its boundaries and one bin's term.
-/
module

public import proofs.«01_k».proof.Proof.Gen.ReferenceIdeal.Run
public import proofs.«01_k».proof.Proof.RI.Probs
public import proofs.«01_k».proof.Proof.Spec.Row
public import proofs.«01_k».proof.Proof.Spec.Ece
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Ece
open Idealize.ShloMosaic Idealize.ShloMosaic.TcCoe Idealize.ShloMosaic.StableHlo

/-- A sum over the flattened array is a sum over the rows and columns. -/
theorem sum_flat (f : S16384000.Idx → ℝ) : ∑ i, f i = ∑ r : Fin 16384, ∑ c : Fin 1000, f (ix1 (flat r c)) := by
  refine (Idealize.ShloMosaic.sum_idx1 (n0 := 16384000) f).trans ?_
  refine Eq.trans ?_ (Fintype.sum_prod_type' fun (r : Fin 16384) (c : Fin 1000) => f (ix1 (flat r c)))
  refine (Fintype.sum_equiv (finProdFinEquiv (m := 16384) (n := 1000)) _ (fun k : Fin (16384 * 1000) => f (ix1 k)) fun q => ?_).symm
  have e : (finProdFinEquiv q : Fin (16384 * 1000)) = flat q.1 q.2 := Fin.ext (by
    show q.2.val + 1000 * q.1.val = q.1.val * 1000 + q.2.val
    omega)
  rw [e]

/-- The entries of a bin, as a float 0 or 1. -/
def mask (p : FVec Ideal S16384000 .f32) (lo hi : FVec Ideal S_ .f32) : FVec Ideal S16384000 .f32 :=
  uitofp .f32 (andi (cmpf .ogt p (broadcastInDim S16384000 ![] bcast_S_S16384000 lo)) (cmpf .ole p (broadcastInDim S16384000 ![] bcast_S_S16384000 hi)))

/-- A bin's term from its three totals. -/
def termOf (n t a : FVec Ideal S_ .f32) : FVec Ideal S_ .f32 :=
  select (cmpf .ogt n (constant S_ .f32 0x00000000#32))
    (mulf (Host.absf (subf (Host.divf t (maximumf n (constant S_ .f32 0x3F800000#32))) (Host.divf a (maximumf n (constant S_ .f32 0x3F800000#32)))))
      (Host.divf n (constant S_ .f32 0x4B7A0000#32)))
    (constant S_ .f32 0x00000000#32)

/-- A total over the flattened array, from zero. -/
def total (v : FVec Ideal S16384000 .f32) : FVec Ideal S_ .f32 :=
  Host.reduceAdd v (constant S_ .f32 0x00000000#32) reducesTo_S16384000_S_d0 h_S_

/-- A bin's term from its entries. -/
def binTerm (p q b : FVec Ideal S16384000 .f32) : FVec Ideal S_ .f32 := termOf (total b) (total (mulf p b)) (total (mulf q b))

/-- A bin's term from its three sums. -/
theorem termOf_apply (n t a : FVec Ideal S_ .f32) (n' t' a' : ℝ) (j : S_.Idx) (hn : n j = ((n' : ℝ) : EReal)) (ht : t j = ((t' : ℝ) : EReal))
    (ha : a j = ((a' : ℝ) : EReal)) : termOf n t a j = ((term n' t' a' : ℝ) : EReal) := by
  refine Eq.trans ?_ (term_coe n' t' a')
  rw [← hn, ← ht, ← ha]
  rfl

/-- A total over the flattened array. -/
theorem total_eq (v : FVec Ideal S16384000 .f32) (g : S16384000.Idx → ℝ) (hv : ∀ i, v i = ((g i : ℝ) : EReal)) (j : S_.Idx) :
    total v j = ((∑ i, g i : ℝ) : EReal) := by
  refine (Ideal.hostReduceAdd_total _ (fun b => b.elim0) _ _ j).trans ?_
  rw [coe_sum, Finset.sum_congr rfl fun i _ => hv i]
  refine (congrArg (· + _) (ofBits_zero.trans EReal.coe_zero)).trans (zero_add _)

/-- A bin's term from the probabilities, the hits and the bin's mask. -/
theorem binTerm_apply (p q b : FVec Ideal S16384000 .f32) (p' q' b' : S16384000.Idx → ℝ) (hp : ∀ i, p i = ((p' i : ℝ) : EReal))
    (hq : ∀ i, q i = ((q' i : ℝ) : EReal)) (hb : ∀ i, b i = ((b' i : ℝ) : EReal)) (j : S_.Idx) :
    binTerm p q b j = ((term (∑ i, b' i) (∑ i, p' i * b' i) (∑ i, q' i * b' i) : ℝ) : EReal) := by
  have hpb : ∀ i, mulf p b i = ((p' i * b' i : ℝ) : EReal) := fun i => by
    rw [EReal.coe_mul, ← hp, ← hb]; rfl
  have hqb : ∀ i, mulf q b i = ((q' i * b' i : ℝ) : EReal) := fun i => by
    rw [EReal.coe_mul, ← hq, ← hb]; rfl
  exact termOf_apply _ _ _ _ _ _ j (total_eq b b' hb j) (total_eq _ _ hpb j) (total_eq _ _ hqb j)

/-- A truth value as a float is 1 or 0. -/
theorem uitofp_ofBool (b : Prop) [Decidable b] : FloatOps.uitofp (F := Ideal) .f32 (BitVec.ofBool (decide b)) = (((if b then 1 else 0 : ℝ)) : EReal) := by
  by_cases h : b
  · rw [decide_eq_true h, if_pos h]
    show ((((1#1 : BitVec 1).toNat : ℝ)) : EReal) = _
    simp
  · rw [decide_eq_false h, if_neg h]
    show ((((0#1 : BitVec 1).toNat : ℝ)) : EReal) = _
    simp

/-- A bin's mask is 1 where the probability lies in the bin, and 0 elsewhere. -/
theorem mask_apply (p : FVec Ideal S16384000 .f32) (p' : S16384000.Idx → ℝ) (hp : ∀ i, p i = ((p' i : ℝ) : EReal)) (lo hi : FVec Ideal S_ .f32)
    (t u : ℝ) (hl : ∀ j, lo j = ((t : ℝ) : EReal)) (hh : ∀ j, hi j = ((u : ℝ) : EReal)) (i : S16384000.Idx) :
    mask p lo hi i = (((if t < p' i ∧ p' i ≤ u then 1 else 0 : ℝ)) : EReal) := by
  have e : mask p lo hi i = FloatOps.uitofp (F := Ideal) .f32 (IntOp.andi (BitVec.ofBool (decide (lo ix0 < p i)))
      (BitVec.ofBool (decide (p i ≤ hi ix0)))) := by
    unfold mask
    idx_vars i
    pointwise
  rw [e, hp, hl, hh]
  simp only [EReal.coe_lt_coe_iff, EReal.coe_le_coe_iff]
  rw [← uitofp_ofBool]
  refine congrArg _ ?_
  by_cases h1 : t < p' i <;> by_cases h2 : p' i ≤ u <;> simp [h1, h2, IntOp.andi]

variable (V0 : Valuation τ sig (Elt Ideal)) (X : FVec Ideal S16384x1000 .f32) (Y : IVec S16384 32)
  (eX : V0 (Proc.devRef .tc main_arg0) = X) (eY : V0 (Proc.devRef .tc main_arg1) = Y)

include eX in
/-- The flattened probabilities. -/
theorem v11_eq : (res_main_v11 V0 : FVec Ideal S16384000 .f32) = shapeCast S16384000 (quot (exps X)) shapeCasts_S16384x1000_S16384000 := by
  subst eX; rfl

include eY in
/-- The flattened hits. -/
theorem v19_eq : (res_main_v19 V0 : FVec Ideal S16384000 .f32) = (uitofp (F := Ideal) .f32 (shapeCast S16384000 (hits Y) shapeCasts_S16384x1000_S16384000) : FVec Ideal S16384000 .f32) := by
  subst eY; rfl

include eX in
/-- A flattened probability is the row's softmax. -/
theorem v11_apply (r : Fin 16384) (c : Fin 1000) : (res_main_v11 V0 : FVec Ideal S16384000 .f32) (ix1 (flat r c)) = rowProb (fun q => X (ix2 r q)) c := by
  rw [v11_eq V0 X eX, flat_apply, quot_apply]
  simp only [exps_apply]
  rfl

include eY in
/-- A flattened hit is 1 at the row's label, and 0 elsewhere. -/
theorem v19_apply (r : Fin 16384) (c : Fin 1000) :
    (res_main_v19 V0 : FVec Ideal S16384000 .f32) (ix1 (flat r c)) = (((if BitVec.ofNat 32 c.val = Y (ix1 r) then 1 else 0 : ℝ)) : EReal) := by
  rw [v19_eq V0 Y eY]
  show FloatOps.uitofp .f32 (shapeCast S16384000 (hits Y) shapeCasts_S16384x1000_S16384000 (ix1 (flat r c))) = _
  rw [flat_apply, hits_apply, ← uitofp_ofBool]
  refine congrArg _ ?_
  by_cases h : BitVec.ofNat 32 c.val = Y (ix1 r)
  · rw [decide_eq_true h, h]; simp [IntOp.cmpi]
  · have hb : (BitVec.ofNat 32 c.val == Y (ix1 r)) = false := by simpa using h
    rw [decide_eq_false h]; simp only [IntOp.cmpi, hb]

/-- The boundaries. -/
theorem cst_apply (i : Fin 16) : (res_main_cst V0 : FVec Ideal S16 .f32) (ix1 i) = ((tb i : ℝ) : EReal) := by
  rw [← ofBits_tbits]
  unfold res_main_cst
  fin_cases i <;> rfl

/-- A bin's lower boundary. -/
theorem lo_apply (k : ℕ) (hk : k < 15) (hs : S15.Slices ![k] S1) (j : S_.Idx) :
    (shapeCast S_ (extractStridedSlice S1 ![k] (res_main_v20 V0 : FVec Ideal S15 .f32) hs) shapeCasts_S1_S_ : FVec Ideal S_ .f32) j
      = ((tb (Fin.castSucc ⟨k, hk⟩) : ℝ) : EReal) := by
  rw [← cst_apply V0]
  unfold res_main_v20
  clean_types
  pointwise
  rfl

/-- A bin's upper boundary. -/
theorem hi_apply (k : ℕ) (hk : k < 15) (hs : S15.Slices ![k] S1) (j : S_.Idx) :
    (shapeCast S_ (extractStridedSlice S1 ![k] (res_main_v21 V0 : FVec Ideal S15 .f32) hs) shapeCasts_S1_S_ : FVec Ideal S_ .f32) j
      = ((tb (Fin.succ ⟨k, hk⟩) : ℝ) : EReal) := by
  rw [← cst_apply V0]
  unfold res_main_v21
  clean_types
  pointwise
  exact congrArg (fun z => (res_main_cst V0 : FVec Ideal S16 .f32) (ix1 z)) (Fin.ext (Nat.add_comm _ _))

end Cert.ReferenceIdeal.Hand

end
-- ==== Proof.RI.Value.lean ====
/-
  The reference's result, at the extended reals: the calibration error of its arguments.
-/
module

public import proofs.«01_k».proof.Proof.RI.Read

@[expose] public section

set_option maxRecDepth 16384

noncomputable section

namespace Cert.ReferenceIdeal.Hand

open Cert.ReferenceIdeal Cert.ReferenceIdeal.Gen Cert.ReferenceIdeal.Value Cert.Ece
open Idealize.ShloMosaic Idealize.ShloMosaic.TcCoe Idealize.ShloMosaic.StableHlo

/-- Every place of the flattened array is a row's and a column's. -/
theorem exists_flat (i : S16384000.Idx) : ∃ r c, i = ix1 (flat r c) := by
  have hi : (i 0).val < 16384000 := (i 0).isLt
  refine ⟨⟨(i 0).val / 1000, by omega⟩, ⟨(i 0).val % 1000, by omega⟩, ?_⟩
  have e : i 0 = flat ⟨(i 0).val / 1000, by omega⟩ ⟨(i 0).val % 1000, by omega⟩ := Fin.ext (by
    show (i 0).val = (i 0).val / 1000 * 1000 + (i 0).val % 1000
    omega)
  rw [← e]
  exact (ix1_eta i).symm

variable (V0 : Valuation τ sig (Elt Ideal))

/-- Bin `k`'s term. -/
def bt (k : ℕ) (hs : S15.Slices ![k] S1) : FVec Ideal S_ .f32 :=
  binTerm (res_main_v11 V0) (res_main_v19 V0)
    (mask (res_main_v11 V0) (shapeCast S_ (extractStridedSlice S1 ![k] (res_main_v20 V0 : FVec Ideal S15 .f32) hs) shapeCasts_S1_S_)
      (shapeCast S_ (extractStridedSlice S1 ![k] (res_main_v21 V0 : FVec Ideal S15 .f32) hs) shapeCasts_S1_S_))

/-- A running sum and a term. -/
def step (acc : FVec Ideal S1 .f32) (t : FVec Ideal S_ .f32) : FVec Ideal S1 .f32 := addf acc (broadcastInDim S1 ![] bcast_S_S1 t)

/-- A running sum and a term add up. -/
theorem step_apply (acc : FVec Ideal S1 .f32) (t : FVec Ideal S_ .f32) (a b : ℝ) (ha : ∀ j, acc j = ((a : ℝ) : EReal))
    (hb : ∀ j, t j = ((b : ℝ) : EReal)) (j : S1.Idx) : step acc t j = ((a + b : ℝ) : EReal) := by
  rw [EReal.coe_add, ← ha j, ← hb ix0]
  unfold step
  idx_vars j
  pointwise

/-- A running sum's start. -/
def start : FVec Ideal S1 .f32 := broadcastInDim S1 ![] bcast_S_S1 (constant S_ .f32 0x00000000#32)

/-- The running sum starts at zero. -/
theorem start_apply (j : S1.Idx) : start j = ((0 : ℝ) : EReal) := ofBits_zero

section Bin

variable (X : FVec Ideal S16384x1000 .f32) (Y : IVec S16384 32) (L : Fin 16384 → Fin 1000)
  (eX : V0 (Proc.devRef .tc main_arg0) = X) (eY : V0 (Proc.devRef .tc main_arg1) = Y)
  (hX : ∀ r, FinRow fun q => X (ix2 r q)) (hY : ∀ r, Y (ix1 r) = BitVec.ofNat 32 (L r).val)

/-- The probabilities. -/
abbrev probs (r : Fin 16384) : Fin 1000 → ℝ := pr fun q => X (ix2 r q)

include eX eY hX hY in
/-- Bin `k`'s term is the specification's. -/
theorem bt_apply (k : ℕ) (hk : k < 15) (hs : S15.Slices ![k] S1) (j : S_.Idx) :
    bt V0 k hs j = ((term (bin (probs X) L 0 ⟨k, hk⟩) (bin (probs X) L 1 ⟨k, hk⟩) (bin (probs X) L 2 ⟨k, hk⟩) : ℝ) : EReal) := by
  have p1 : ∀ r c, (res_main_v11 V0 : FVec Ideal S16384000 .f32) (ix1 (flat r c)) = ((probs X r c : ℝ) : EReal) := fun r c => by
    rw [v11_apply V0 X eX, rowProb_eq (hX r)]
  have q1 : ∀ r c, (res_main_v19 V0 : FVec Ideal S16384000 .f32) (ix1 (flat r c)) = (((if c = L r then 1 else 0 : ℝ)) : EReal) := fun r c => by
    rw [v19_apply V0 Y eY, hY]
    refine congrArg (fun z : ℝ => (z : EReal)) (if_congr ⟨fun h => ?_, fun h => by rw [h]⟩ rfl rfl)
    have := congrArg BitVec.toNat h
    simp only [BitVec.toNat_ofNat] at this
    exact Fin.ext (by omega)
  obtain ⟨p, hp⟩ : ∃ p : S16384000.Idx → ℝ, ∀ i, (res_main_v11 V0 : FVec Ideal S16384000 .f32) i = ((p i : ℝ) : EReal) := by
    have h : ∀ i : S16384000.Idx, ∃ x : ℝ, (res_main_v11 V0 : FVec Ideal S16384000 .f32) i = ((x : ℝ) : EReal) := fun i => by
      obtain ⟨r, c, rfl⟩ := exists_flat i
      exact ⟨_, p1 r c⟩
    exact ⟨fun i => (h i).choose, fun i => (h i).choose_spec⟩
  obtain ⟨q, hq⟩ : ∃ q : S16384000.Idx → ℝ, ∀ i, (res_main_v19 V0 : FVec Ideal S16384000 .f32) i = ((q i : ℝ) : EReal) := by
    have h : ∀ i : S16384000.Idx, ∃ x : ℝ, (res_main_v19 V0 : FVec Ideal S16384000 .f32) i = ((x : ℝ) : EReal) := fun i => by
      obtain ⟨r, c, rfl⟩ := exists_flat i
      exact ⟨_, q1 r c⟩
    exact ⟨fun i => (h i).choose, fun i => (h i).choose_spec⟩
  have p2 : ∀ r c, p (ix1 (flat r c)) = probs X r c := fun r c => EReal.coe_eq_coe_iff.mp ((hp _).symm.trans (p1 r c))
  have q2 : ∀ r c, q (ix1 (flat r c)) = if c = L r then 1 else 0 := fun r c => EReal.coe_eq_coe_iff.mp ((hq _).symm.trans (q1 r c))
  refine (binTerm_apply _ _ _ p q _ hp hq
    (mask_apply _ p hp _ _ _ _ (lo_apply V0 k hk hs) (hi_apply V0 k hk hs)) j).trans ?_
  rw [sum_flat, sum_flat, sum_flat]
  refine congrArg (fun z : ℝ => (z : EReal)) ?_
  unfold bin within wt
  simp only [p2, q2, mul_ite, mul_one, mul_zero]

end Bin

/-- The first half of the running sum. -/
theorem v211_eq : (res_main_v211 V0 : FVec Ideal S1 .f32) = (step (step (step (step (step (step (step start (bt V0 0 slices_S15_S1_0)) (bt V0 1 slices_S15_S1_1)) (bt V0 2 slices_S15_S1_2)) (bt V0 3 slices_S15_S1_3)) (bt V0 4 slices_S15_S1_4)) (bt V0 5 slices_S15_S1_5)) (bt V0 6 slices_S15_S1_6)) := by
  rfl

/-- The running sum but its last term. -/
theorem v400_eq : (res_main_v400 V0 : FVec Ideal S1 .f32) = (step (step (step (step (step (step (step (res_main_v211 V0) (bt V0 7 slices_S15_S1_7)) (bt V0 8 slices_S15_S1_8)) (bt V0 9 slices_S15_S1_9)) (bt V0 10 slices_S15_S1_10)) (bt V0 11 slices_S15_S1_11)) (bt V0 12 slices_S15_S1_12)) (bt V0 13 slices_S15_S1_13)) := by
  rfl

/-- The result: the whole running sum, laid out as a matrix. -/
def result : FVec Ideal S1x1 .f32 := shapeCast S1x1 (step (res_main_v400 V0) (bt V0 14 slices_S15_S1_14)) shapeCasts_S1_S1x1

/-- The result is the calibration error. -/
theorem result_eq (X : FVec Ideal S16384x1000 .f32) (Y : IVec S16384 32) (L : Fin 16384 → Fin 1000)
    (eX : V0 (Proc.devRef .tc main_arg0) = X) (eY : V0 (Proc.devRef .tc main_arg1) = Y)
    (hX : ∀ r, FinRow fun q => X (ix2 r q)) (hY : ∀ r, Y (ix1 r) = BitVec.ofNat 32 (L r).val) :
    result V0 = fun _ => ((ece (probs X) L : ℝ) : EReal) := by
  have b := bt_apply V0 X Y L eX eY hX hY
  have h0 := start_apply
  have h1 := step_apply _ _ _ _ h0 (b 0 (by omega) slices_S15_S1_0)
  have h2 := step_apply _ _ _ _ h1 (b 1 (by omega) slices_S15_S1_1)
  have h3 := step_apply _ _ _ _ h2 (b 2 (by omega) slices_S15_S1_2)
  have h4 := step_apply _ _ _ _ h3 (b 3 (by omega) slices_S15_S1_3)
  have h5 := step_apply _ _ _ _ h4 (b 4 (by omega) slices_S15_S1_4)
  have h6 := step_apply _ _ _ _ h5 (b 5 (by omega) slices_S15_S1_5)
  have h7 := step_apply _ _ _ _ h6 (b 6 (by omega) slices_S15_S1_6)
  rw [← v211_eq V0] at h7
  have h8 := step_apply _ _ _ _ h7 (b 7 (by omega) slices_S15_S1_7)
  have h9 := step_apply _ _ _ _ h8 (b 8 (by omega) slices_S15_S1_8)
  have h10 := step_apply _ _ _ _ h9 (b 9 (by omega) slices_S15_S1_9)
  have h11 := step_apply _ _ _ _ h10 (b 10 (by omega) slices_S15_S1_10)
  have h12 := step_apply _ _ _ _ h11 (b 11 (by omega) slices_S15_S1_11)
  have h13 := step_apply _ _ _ _ h12 (b 12 (by omega) slices_S15_S1_12)
  have h14 := step_apply _ _ _ _ h13 (b 13 (by omega) slices_S15_S1_13)
  rw [← v400_eq V0] at h14
  have h15 := step_apply _ _ _ _ h14 (b 14 (by omega) slices_S15_S1_14)
  funext j
  have e : ∀ (v : FVec Ideal S1 .f32) (a : ℝ), (∀ j, v j = ((a : ℝ) : EReal)) →
      (shapeCast S1x1 v shapeCasts_S1_S1x1 : FVec Ideal S1x1 .f32) j = ((a : ℝ) : EReal) := fun v a h => h _
  unfold result
  refine (e _ _ h15).trans (congrArg (fun z : ℝ => (z : EReal)) ?_)
  unfold ece
  simp only [Fin.sum_univ_succ, Fin.sum_univ_zero, add_zero, zero_add, add_assoc]
  rfl

end Cert.ReferenceIdeal.Hand

end
-- ==== Proof.Spec.Pre.lean ====
/-
  The precondition, read: finite logits, and labels below the number of classes.
-/
module

public import proofs.«01_k».proof.Pre_in_range
public import proofs.«01_k».proof.Proof.Gen.Pre_in_range
public import proofs.«01_k».proof.Proof.Spec.Row
public import Idealize.ShloMosaic.Lib.ReduceAll
public import Idealize.ShloMosaic.Lib.Affine
public import Idealize.ShloMosaic.Lib.Pointwise

@[expose] public section

set_option maxRecDepth 16384

noncomputable section

namespace Cert.Ece

open Idealize.ShloMosaic Cert.Pre_in_range Cert.Pre_in_range.Gen

/-- Whether each logit is finite. -/
def finMask (X : FVec Ideal S16384x1000 .f32) : IVec S16384x1000 1 :=
  cmpf .olt (Host.absf X) (broadcastInDim S16384x1000 ![] bcast_S_S16384x1000 (constant S_ .f32 0x7F800000#32 : FVec Ideal S_ .f32))

/-- Whether each label is in range. -/
def labMask (Y : IVec S16384 32) : IVec S16384 1 :=
  andi (cmpi .sge Y (broadcastInDim S16384 ![] bcast_S_S16384 (constantI S_ 32 0#32)))
    (cmpi .slt Y (broadcastInDim S16384 ![] bcast_S_S16384 (constantI S_ 32 1000#32)))

/-- The precondition is the two masks, each reduced by `and`. -/
theorem fn_eq (X : FVec Ideal S16384x1000 .f32) (Y : IVec S16384 32) :
    fn (F := Ideal) X Y = andi (Host.reduce IntOp.andi (finMask X) (constantI S_ 1 1#1) reducesTo_S16384x1000_S_d0_1 h_S_)
      (Host.reduce IntOp.andi (labMask Y) (constantI S_ 1 1#1) reducesTo_S16384_S_d0 h_S_) := rfl

instance : Subsingleton S_.Idx := ⟨fun a b => funext fun d => d.elim0⟩

/-- A logit that passes its mask is finite. -/
theorem finMask_apply (X : FVec Ideal S16384x1000 .f32) (r : Fin 16384) (q : Fin 1000) (h : finMask X (ix2 r q) = 1#1) :
    X (ix2 r q) ≠ ⊥ ∧ X (ix2 r q) ≠ ⊤ := by
  have e : finMask X (ix2 r q) = BitVec.ofBool (decide (max (X (ix2 r q)) (-(X (ix2 r q))) < Ideal.ofBits .f32 0x7F800000#32)) := rfl
  rw [e, ofBits_inf] at h
  have h' : max (X (ix2 r q)) (-(X (ix2 r q))) < ⊤ := by
    by_contra hn
    rw [decide_eq_false hn] at h
    exact absurd h (by decide)
  refine ⟨fun hb => ?_, fun ht => ?_⟩
  · rw [hb] at h'; simp at h'
  · rw [ht] at h'; simp at h'

/-- A label that passes its mask is a class. -/
theorem labMask_apply (Y : IVec S16384 32) (r : Fin 16384) (h : labMask Y (ix1 r) = 1#1) : (Y (ix1 r)).toNat < 1000 := by
  have e : labMask Y (ix1 r) = IntOp.andi (IntOp.cmpi .sge (Y (ix1 r)) 0#32) (IntOp.cmpi .slt (Y (ix1 r)) 1000#32) := rfl
  rw [e, IntOp.andi_eq_one, IntOp.cmpi_sge, IntOp.cmpi_slt] at h
  obtain ⟨h1, h2⟩ := h
  have a : (0#32 : BitVec 32).toInt = 0 := by decide
  have b : (1000#32 : BitVec 32).toInt = 1000 := by decide
  rw [a] at h1
  rw [b] at h2
  rw [BitVec.toInt_eq_toNat_cond] at h1 h2
  have := (Y (ix1 r)).isLt
  split at h1 <;> omega

/-- Arguments in range: every row is finite and every label is a class. -/
theorem of_pre (X : FVec Ideal S16384x1000 .f32) (Y : IVec S16384 32) (h : fn (F := Ideal) X Y = fun _ => 1#1) :
    (∀ r, FinRow fun q => X (ix2 r q)) ∧ ∃ L : Fin 16384 → Fin 1000, ∀ r, Y (ix1 r) = BitVec.ofNat 32 (L r).val := by
  rw [fn_eq] at h
  obtain ⟨h1, h2⟩ := IntOp.andi_eq_one.1 (congrFun h ix0)
  refine ⟨fun r q => finMask_apply X r q (Host.reduce_andi_all _ _ _ _ _ h1 _), ?_⟩
  have hl : ∀ r, (Y (ix1 r)).toNat < 1000 := fun r => labMask_apply Y r (Host.reduce_andi_all _ _ _ _ _ h2 _)
  exact ⟨fun r => ⟨_, hl r⟩, fun r => BitVec.eq_of_toNat_eq (by have := hl r; simp only [BitVec.toNat_ofNat]; omega)⟩

end Cert.Ece

end
-- ==== Proof.lean ====
/-
  The claim, assembled: the two kernels' runs (`Proof/K`, `Proof/KI`), the reference's generated run.
-/
module

public import proofs.«01_k».proof.Defs
public import proofs.«01_k».proof.Proof.K.Run
public import proofs.«01_k».proof.Proof.KI.Run
public import proofs.«01_k».proof.Proof.KI.Value
public import proofs.«01_k».proof.Proof.RI.Value
public import proofs.«01_k».proof.Proof.Spec.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Kernel and reference, on finite logits and labels that are classes, end with the same result: the calibration error. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  have hL := fun c => Cert.Ece.of_pre _ _ (hpre c)
  refine ⟨fun c => fun _ => ((Cert.Ece.ece (Cert.KernelIdeal.Hand.prob (m ((c.tc : Thread Cert.KernelIdeal.nD Cert.KernelIdeal.τ).loc Cert.KernelIdeal.main_arg0))) (hL c).2.choose : ℝ) : EReal), ?_, ?_⟩
  · refine (θ_run Cert.KernelIdeal.defs _ _).mono (fun r h c => ?_) (Cert.KernelIdeal.Hand.run_result m g)
    obtain ⟨h0, h1, h2⟩ := h.1 c
    exact ⟨h2.trans (Cert.KernelIdeal.Hand.final m c _ _ _ rfl rfl (hL c).1 (hL c).2.choose_spec), h0, h1⟩
  · refine (θ_run Cert.ReferenceIdeal.defs _ _).mono (fun r h c => ?_) (Cert.ReferenceIdeal.Value.run (F := Ideal) m' g')
    obtain ⟨h2, h0, h1⟩ := h c
    exact ⟨h2.trans (Cert.ReferenceIdeal.Hand.result_eq _ _ _ _ (hagree c).1 (hagree c).2 (hL c).1 (hL c).2.choose_spec), h0, h1⟩

theorem claim : Cert.Claim :=
  ⟨Cert.Kernel.Gen.facts, Cert.KernelIdeal.Gen.facts, Cert.ReferenceIdeal.Gen.facts, Cert.Pre_in_range.Gen.facts,
    fun m g _ => Cert.Kernel.Hand.frame m g,
    fun m g _ => Cert.KernelIdeal.Hand.frame m g,
    fun m g _ => Cert.KernelIdeal.Hand.frame m g,
    fun m g _ => frame_reference m g,
    fun m g _ => frame_reference m g,
    trivial,
    algebraic⟩

end Cert.Proof

end
